-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_in_range [hPre_mask_in_range : Cert.Pre_mask_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_mask_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_in_range [hPre_mask_in_range : Cert.Pre_mask_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_mask_in_range [hKernelIdeal : Cert.KernelIdeal.Facts] [hPre_mask_in_range : Cert.Pre_mask_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_mask_in_range [hReferenceIdeal : Cert.ReferenceIdeal.Facts] [hPre_mask_in_range : Cert.Pre_mask_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_mask_in_range [hKernelIdeal : Cert.KernelIdeal.Facts] [hReferenceIdeal : Cert.ReferenceIdeal.Facts] [hPre_mask_in_range : Cert.Pre_mask_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_mask_in_range : Cert.Pre_mask_in_range.Facts),
    quiescent_Kernel (hKernel := hKernel)
    ∧ quiescent_KernelIdeal (hKernelIdeal := hKernelIdeal)
    ∧ quiescent_KernelIdeal_pre_mask_in_range (hKernelIdeal := hKernelIdeal) (hPre_mask_in_range := hPre_mask_in_range)
    ∧ quiescent_ReferenceIdeal (hReferenceIdeal := hReferenceIdeal)
    ∧ quiescent_ReferenceIdeal_pre_mask_in_range (hReferenceIdeal := hReferenceIdeal) (hPre_mask_in_range := hPre_mask_in_range)
    ∧ preserves_Kernel_KernelIdeal
    ∧ algebraic_KernelIdeal_ReferenceIdeal_pre_mask_in_range (hKernelIdeal := hKernelIdeal) (hReferenceIdeal := hReferenceIdeal) (hPre_mask_in_range := hPre_mask_in_range)
-- ==== Pre_mask_in_range.lean ====
abbrev S2x4096x2048 : Shape := ⟨3, ![2, 4096, 2048]⟩
abbrev S2048x64 : Shape := ⟨2, ![2048, 64]⟩
abbrev S64 : Shape := ⟨1, ![64]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S2x4096x2048 .f32) (main_arg1 : FVec F S2048x64 .f32) (main_arg2 : FVec F S64 .f32) (main_arg3 : FVec F S_ .f32) (main_arg4 : FVec F S64 .f32) : IVec S64 1 :=
  let main_v0 : FVec F S64 .f32 := Host.absf main_arg4
  let main_cst : FVec F S_ .f32 := constant S_ .f32 0x7F7FFFFF#32
  let main_v1 : FVec F S64 .f32 := broadcastInDim S64 ![] bcast_S_S64 main_cst
  let main_v2 : IVec S64 1 := cmpf .olt main_v0 main_v1
  main_v2
-- ==== Kernel.lean ====
abbrev S2x4096x2048 : Shape := ⟨3, ![2, 4096, 2048]⟩
abbrev S2048x64 : Shape := ⟨2, ![2048, 64]⟩
abbrev S64 : Shape := ⟨1, ![64]⟩
abbrev S_ : Shape := ⟨0, ![]⟩
abbrev S8192x2048 : Shape := ⟨2, ![8192, 2048]⟩
abbrev S1x64 : Shape := ⟨2, ![1, 64]⟩
abbrev S1x1 : Shape := ⟨2, ![1, 1]⟩
abbrev S8192x64 : Shape := ⟨2, ![8192, 64]⟩
abbrev S512x64 : Shape := ⟨2, ![512, 64]⟩
abbrev S4x512x2048 : Shape := ⟨3, ![4, 512, 2048]⟩
abbrev S4 : Shape := ⟨1, ![4]⟩
abbrev S1 : Shape := ⟨1, ![1]⟩
abbrev S1x512x2048 : Shape := ⟨3, ![1, 512, 2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S2048x64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S8192x2048, .f32⟩
  | .hbm, ⟨6, _⟩ => ⟨S1x64, .f32⟩
  | .hbm, ⟨7, _⟩ => ⟨S1x1, .f32⟩
  | .hbm, ⟨8, _⟩ => ⟨S1x64, .f32⟩
  | .hbm, ⟨9, _⟩ => ⟨S8192x64, .f32⟩
  | .hbm, ⟨10, _⟩ => ⟨S8192x64, .f32⟩
  | .local _ .vmem, ⟨0, _⟩ => ⟨S2048x64, .f32⟩
  | .local _ .vmem, ⟨1, _⟩ => ⟨S1x64, .f32⟩
  | .local _ .vmem, ⟨2, _⟩ => ⟨S1x1, .f32⟩
  | .local _ .vmem, ⟨3, _⟩ => ⟨S1x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S4x512x2048, .f32⟩
  | .local _ .vmem, ⟨9, _⟩ => ⟨S2048x64, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c3_i32_2 : BitVec 32 := 3#32
  let v6 : BitVec 32 := Scalar.addi arg0 c3_i32_2
  let c16_i32 : BitVec 32 := 16#32
  let v7 : BitVec 1 := Scalar.cmpi .slt v6 c16_i32
  let v8 : BitVec 32 := Scalar.extui v7
  let c0_i32_3 : BitVec 32 := 0#32
  let v9 : BitVec 1 := Scalar.cmpi .ne v8 c0_i32_3
  v9

def k0_off1 (i : grid0.Coords) : Fin 1 → Nat :=
  let arg0 : BitVec 32 := BitVec.ofNat 32 (i 0).val
  let c3_i32 : BitVec 32 := 3#32
  let v1 : BitVec 32 := Scalar.addi arg0 c3_i32
  let c4_i32_0 : BitVec 32 := 4#32
  let v2 : BitVec 32 := Scalar.remsi v1 c4_i32_0
  ![v2.toNat]
def k0_off2 (i : grid0.Coords) : Fin 3 → Nat :=
  let arg0 : BitVec 32 := BitVec.ofNat 32 (i 0).val
  let c3_i32 : BitVec 32 := 3#32
  let v1 : BitVec 32 := Scalar.addi arg0 c3_i32
  let c4_i32_0 : BitVec 32 := 4#32
  let v2 : BitVec 32 := Scalar.remsi v1 c4_i32_0
  let c0_i32_33 : BitVec 32 := 0#32
  let c0_i32_34 : BitVec 32 := 0#32
  ![v2.toNat, 0, 0]
def k0_off3 (i : grid0.Coords) : Fin 2 → Nat :=
  let arg0 : BitVec 32 := BitVec.ofNat 32 (i 0).val
  let c3_i32_31 : BitVec 32 := 3#32
  let v81 : BitVec 32 := Scalar.addi arg0 c3_i32_31
  let c512_i32_32 : BitVec 32 := 512#32
  let v82 : BitVec 32 := Scalar.muli v81 c512_i32_32
  let c0_i32_35 : BitVec 32 := 0#32
  ![v82.toNat, 0]
def k0_off4 (i : grid0.Coords) : Fin 1 → Nat :=
  let arg0 : BitVec 32 := BitVec.ofNat 32 (i 0).val
  let c4_i32 : BitVec 32 := 4#32
  let v0 : BitVec 32 := Scalar.remsi arg0 c4_i32
  ![v0.toNat]
def k0_off5 (i : grid0.Coords) : Fin 3 → Nat :=
  let arg0 : BitVec 32 := BitVec.ofNat 32 (i 0).val
  let c4_i32 : BitVec 32 := 4#32
  let v0 : BitVec 32 := Scalar.remsi arg0 c4_i32
  let c0_i32_4 : BitVec 32 := 0#32
  let c0_i32_5 : BitVec 32 := 0#32
  ![v0.toNat, 0, 0]
def k0_off6 (i : grid0.Coords) : Fin 2 → Nat :=
  let arg0 : BitVec 32 := BitVec.ofNat 32 (i 0).val
  let c512_i32 : BitVec 32 := 512#32
  let v10 : BitVec 32 := Scalar.muli arg0 c512_i32
  let c0_i32_6 : BitVec 32 := 0#32
  ![v10.toNat, 0]
def k0_off7 (i : grid0.Coords) : Fin 3 → Nat :=
  let arg0 : BitVec 32 := BitVec.ofNat 32 (i 0).val
  let c4_i32 : BitVec 32 := 4#32
  let v0 : BitVec 32 := Scalar.remsi arg0 c4_i32
  let v16 : Index := Scalar.indexCast v0
  let c0 : Index := 0#32
  let c0_7 : Index := 0#32
  ![v16.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x4096x2048 : Shape := ⟨3, ![2, 4096, 2048]⟩
abbrev S2048x64 : Shape := ⟨2, ![2048, 64]⟩
abbrev S64 : Shape := ⟨1, ![64]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x2 : Shape := ⟨2, ![8192, 2]⟩
abbrev S8192x2x1 : Shape := ⟨3, ![8192, 2, 1]⟩
abbrev S1x1x64 : Shape := ⟨3, ![1, 1, 64]⟩
abbrev S8192x2x64 : Shape := ⟨3, ![8192, 2, 64]⟩

abbrev nBuf : Space → Nat
  | .hbm => 72
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x64, .f32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S8192x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S2048x64, .f32⟩
  | .hbm, ⟨23, _⟩ => ⟨S_, .f32⟩
  | .hbm, ⟨24, _⟩ => ⟨S64, .f32⟩
  | .hbm, ⟨25, _⟩ => ⟨S1x64, .f32⟩
  | .hbm, ⟨26, _⟩ => ⟨S1x64, .f32⟩
  | .hbm, ⟨27, _⟩ => ⟨S_, .f32⟩
  | .hbm, ⟨28, _⟩ => ⟨S1x64, .f32⟩
  | .hbm, ⟨29, _⟩ => ⟨S1x64, .f32⟩
  | .hbm, ⟨30, _⟩ => ⟨S2048x64, .f32⟩
  | .hbm, ⟨31, _⟩ => ⟨S2048x64, .f32⟩
  | .hbm, ⟨32, _⟩ => ⟨S8192x64, .f32⟩
  | .hbm, ⟨33, _⟩ => ⟨S1x64, .f32⟩
  | .hbm, ⟨34, _⟩ => ⟨S8192x64, .f32⟩
  | .hbm, ⟨35, _⟩ => ⟨S8192x64, .f32⟩
  | .hbm, ⟨36, _⟩ => ⟨S64, .f32⟩
  | .hbm, ⟨37, _⟩ => ⟨S64, .f32⟩
  | .hbm, ⟨38, _⟩ => ⟨S1x64, .f32⟩
  | .hbm, ⟨39, _⟩ => ⟨S8192x64, .f32⟩
  | .hbm, ⟨40, _⟩ => ⟨S8192x64, .f32⟩
  | .hbm, ⟨41, _⟩ => ⟨S_, .f32⟩
  | .hbm, ⟨42, _⟩ => ⟨S8192x64, .f32⟩
  | .hbm, ⟨43, _⟩ => ⟨S8192x64, .f32⟩
  | .hbm, ⟨44, _⟩ => ⟨S_, .f32⟩
  | .hbm, ⟨45, _⟩ => ⟨S8192x64, .f32⟩
  | .hbm, ⟨46, _⟩ => ⟨S8192x64, .i1⟩
  | .hbm, ⟨47, _⟩ => ⟨S8192x64, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .i1⟩
  | .hbm, ⟨53, _⟩ => ⟨S8192x2, .f32⟩
  | .hbm, ⟨54, _⟩ => ⟨S8192x2, .i32⟩
  | .hbm, ⟨55, _⟩ => ⟨S8192x2x1, .i32⟩
  | .hbm, ⟨56, _⟩ => ⟨S1x1x64, .i32⟩
  | .hbm, ⟨57, _⟩ => ⟨S8192x2x64, .i32⟩
  | .hbm, ⟨58, _⟩ => ⟨S8192x2x64, .i32⟩
  | .hbm, ⟨59, _⟩ => ⟨S8192x2x64, .i1⟩
  | .hbm, ⟨60, _⟩ => ⟨S8192x2x64, .f32⟩
  | .hbm, ⟨61, _⟩ => ⟨S_, .f32⟩
  | .hbm, ⟨62, _⟩ => ⟨S8192x64, .f32⟩
  | .hbm, ⟨63, _⟩ => ⟨S8192x1, .i1⟩
  | .hbm, ⟨64, _⟩ => ⟨S_, .f32⟩
  | .hbm, ⟨65, _⟩ => ⟨S8192x64, .f32⟩
  | .hbm, ⟨66, _⟩ => ⟨S8192x64, .i1⟩
  | .hbm, ⟨67, _⟩ => ⟨S8192x64, .i1⟩
  | .hbm, ⟨68, _⟩ => ⟨S8192x64, .i1⟩
  | .hbm, ⟨69, _⟩ => ⟨S_, .f32⟩
  | .hbm, ⟨70, _⟩ => ⟨S8192x64, .f32⟩
  | .hbm, ⟨71, _⟩ => ⟨S8192x64, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call2_cst : Ref sig .tc := ⟨.hbm, 41, rfl⟩
abbrev main_call2_v0 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_values : Ref sig .tc := ⟨.hbm, 53, rfl⟩
abbrev main_indices : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_v31 : Ref sig .tc := ⟨.hbm, 60, rfl⟩
abbrev main_cst_6 : Ref sig .tc := ⟨.hbm, 61, rfl⟩
abbrev main_v32 : Ref sig .tc := ⟨.hbm, 62, rfl⟩
abbrev main_v33 : Ref sig .tc := ⟨.hbm, 63, rfl⟩
abbrev main_cst_7 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_8 : Ref sig .tc := ⟨.hbm, 69, rfl⟩
abbrev main_call4_v0 : Ref sig .tc := ⟨.hbm, 70, rfl⟩
abbrev main_v38 : Ref sig .tc := ⟨.hbm, 71, rfl⟩

abbrev nD : Nat := 1
abbrev τ : Topo := Topo.v7x

variable {F : FTy → Type} [FloatOps F]
-- ==== Proof.Ring.lean ====
/- The names the kernel's run is stated over: the two conditions of its body in closed form over the grid, the memrefs
   it is called with, and the ring — the four slots of the scratch buffer that the body fills with blocks of 512 rows
   of the flattened hidden states, three blocks ahead — with what the launch hands the ring and takes back. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Ring.AtN
public import Idealize.ShloMosaic.Lib.Tactic
public import Idealize.ShloMosaic.Lib.WordCmp

@[expose] public section

set_option maxRecDepth 16384

noncomputable section

namespace Cert.Gating

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body's two conditions -/

/-- The condition under which the body normalises the expert embeddings and starts the first three blocks. -/
abbrev atFirst (i : grid0.Coords) : Prop :=
  (Scalar.cmpi .ne (Scalar.extui (Scalar.cmpi .eq (BitVec.ofNat 32 (i 0).val) 0#32)) 0#32) = 1#1
/-- It holds at the first point only. -/
theorem atFirst_iff : ∀ t : Fin cfg0.N, atFirst (grid0.coords t) ↔ t.val = 0 :=
  (by decide +kernel : ∀ t : Fin grid0.N, atFirst (grid0.coords t) ↔ t.val = 0)
/-- The condition under which the body starts the block three points ahead. -/
abbrev hasNext (i : grid0.Coords) : Prop := k0_cond2 i = 1#1
/-- It holds at the points before point 13. -/
theorem hasNext_iff : ∀ t : Fin cfg0.N, hasNext (grid0.coords t) ↔ t.val < 13 :=
  (by decide +kernel : ∀ t : Fin grid0.N, hasNext (grid0.coords t) ↔ t.val < 13)

/-! ## The memrefs the body is called with -/

/-- The staging buffer of each window at point `t`. -/
abbrev mSim (t : Fin cfg0.N) : Memref sig .tc .vmem S2048x64 .f32 := win0_0.stage (cfg0.slots t 0)
abbrev mGates (t : Fin cfg0.N) : Memref sig .tc .vmem S1x64 .f32 := win0_1.stage (cfg0.slots t 1)
abbrev mTemp (t : Fin cfg0.N) : Memref sig .tc .vmem S1x1 .f32 := win0_2.stage (cfg0.slots t 2)
abbrev mEm (t : Fin cfg0.N) : Memref sig .tc .vmem S1x64 .f32 := win0_3.stage (cfg0.slots t 3)
abbrev mMask (t : Fin cfg0.N) : Memref sig .tc .vmem S512x64 .f32 := win0_4.stage (cfg0.slots t 4)
abbrev mLogits (t : Fin cfg0.N) : Memref sig .tc .vmem S512x64 .f32 := win0_5.stage (cfg0.slots t 5)
/-- The scratch buffer of the four slots, and the scratch buffer that keeps the normalised embeddings. -/
abbrev mRing : Memref sig .tc .vmem S4x512x2048 .f32 := Memref.whole cc0_scratch0
abbrev mSimn : Memref sig .tc .vmem S2048x64 .bf16 := Memref.whole cc0_scratch1
/-- The flattened hidden states, which the body copies itself. -/
abbrev mX : Memref sig .tc .hbm S8192x2048 .f32 := Memref.whole main_v0
/-- The contents of memref `M`'s buffer on core `c`, and that buffer held whole at the contents `f`. -/
abbrev BufAt (c : Dev nD) {sp : Space} {S : Shape} {e : EltTy} (M : Memref sig .tc sp S e) : Type :=
  Buf (Elt F) (M.view.loc (c : Thread nD τ))
abbrev wholeAt (c : Dev nD) {sp : Space} {S : Shape} {e : EltTy} (M : Memref sig .tc sp S e) (f : BufAt (F := F) c M) : sProp 𝕄 :=
  M.view.loc (c : Thread nD τ) ↦{fullShare} f

/-! ## What the launch hands the body beside the windows -/

/-- The body's four transfer semaphores. -/
abbrev osem : Fin 4 → SemLoc sig :=
  fun j => (![SemLoc.dma 8, SemLoc.dma 9, SemLoc.dma 10, SemLoc.dma 11] : Fin 4 → SemLoc sig) j
theorem ownSemFacts : Pipeline.OwnSemFacts spec0 osem := by decide
/-- The four semaphores at zero. -/
abbrev cellsZero (c : Dev nD) : sProp 𝕄 :=
  iprop(semVal ((c : Thread nD τ), SemLoc.dma 8) 0 ∗ semVal ((c : Thread nD τ), SemLoc.dma 9) 0
    ∗ semVal ((c : Thread nD τ), SemLoc.dma 10) 0 ∗ semVal ((c : Thread nD τ), SemLoc.dma 11) 0)
theorem ownSems_eq (c : Dev nD) :
    (Pipeline.ownSems0 (Ix := Unit) (Name := ℕ) (U := Pipeline.UD sig nD τ) (Lvl := ℕ) (Val := Elt F) (τ := τ) osem c : sProp 𝕄)
      = cellsZero c := by
  rw [Pipeline.ownSems0_eq_of_list c osem [0, 1, 2, 3] (by decide) (by decide)]; rfl
/-- The one array the body copies from. -/
def hbmRefs : Finset (Ref sig .tc) := {main_v0}
theorem hbmRefs_sub : hbmRefs ⊆ Pipeline.restRefs sig spec0 := by decide
theorem hbmPts_eq (c : Dev nD) :
    (bigSep hbmRefs (fun b => ((c : Thread nD τ).loc b) ↦{fullShare} V m c b) : sProp 𝕄) = iprop(wholeAt c mX (V m c main_v0)) := by
  rw [BI.bigSep_eq_bigSepL_of_eq [main_v0] (by decide) (by decide)]; rfl
/-- What the launch hands over, piece by piece: both scratch buffers at anything, the generator's register, the
    semaphores at zero, the hidden states as the region finds them. -/
theorem handed_eq (c : Dev nD) :
    (Pipeline.ΦD osem spec0 hbmRefs (V m) c : sProp 𝕄)
      = iprop(iprop((∃ d, owns (c : Thread nD τ) mRing fullShare d) ∗ (∃ d, owns (c : Thread nD τ) mSimn fullShare d))
          ∗ (∃ r, prngReg c r) ∗ cellsZero c ∗ iprop(wholeAt c mX (V m c main_v0))) := by
  rw [Pipeline.ΦD_eq, scopedRest0_eq, ownSems_eq, hbmPts_eq]; simp only [mRing, mSimn, owns_whole]; try rfl

/-! ## The ring -/

instance : NeZero grid0.N := ⟨by rw [N_0]; decide⟩
theorem inb_slot (s : Fin 4) : ∀ a, (![s.val, 0, 0] : Fin 3 → Nat) a + S1x512x2048.size a ≤ S4x512x2048.size a := by
  have := s.isLt; intro a; fin_cases a <;> simp <;> omega
theorem inb_block (b : Fin 16) : ∀ a, (![512 * b.val, 0] : Fin 2 → Nat) a + S512x2048.size a ≤ S8192x2048.size a := by
  have := b.isLt; intro a; fin_cases a <;> simp <;> omega
theorem inb_cell (s : Fin 4) : ∀ a, (![s.val] : Fin 1 → Nat) a + S1.size a ≤ S4.size a := by
  have := s.isLt; intro a; fin_cases a <;> simp <;> omega
/-- Slot `s` of the ring. -/
def rslot (s : Fin 4) : Memref sig .tc .vmem S512x2048 .f32 :=
  (mRing.slice (Rect.unit (s := S4x512x2048) ![s.val, 0, 0] S1x512x2048.size (inb_slot s)) (fun _ => rfl)).squeeze S512x2048 squeezes_S1x512x2048_S512x2048
/-- Block `b` of the hidden states: rows `512 b` to `512 b + 511`. -/
def xblock (b : Fin 16) : Memref sig .tc .hbm S512x2048 .f32 :=
  mX.slice (Rect.unit (s := S8192x2048) ![512 * b.val, 0] S512x2048.size (inb_block b)) (fun _ => rfl)
/-- Semaphore `s` of the four, and its place in the pool. -/
def rcell (s : Fin 4) : DmaSems sig S_ :=
  (cc0_scratch2.slice (Rect.unit (s := S4) ![s.val] S1.size (inb_cell s))).squeeze S_ squeezes_S1_S_
abbrev rcellLoc (s : Fin 4) : SemLoc sig := SemLoc.dma (rcell s).sem
theorem rcellLoc_0 : rcellLoc 0 = SemLoc.dma 8 := by decide
theorem rcellLoc_1 : rcellLoc 1 = SemLoc.dma 9 := by decide
theorem rcellLoc_2 : rcellLoc 2 = SemLoc.dma 10 := by decide
theorem rcellLoc_3 : rcellLoc 3 = SemLoc.dma 11 := by decide

/-- A slot the program writes at offset `o` is slot `s` when `o` is that slot's offset; -/
theorem slot_name {o : Fin 3 → Nat} {s : Fin 4} (h : o = ![s.val, 0, 0]) (hin : ∀ a, o a + S1x512x2048.size a ≤ S4x512x2048.size a) :
    (mRing.slice (Rect.unit (s := S4x512x2048) o S1x512x2048.size hin) (fun _ => rfl)).squeeze S512x2048 squeezes_S1x512x2048_S512x2048
      = rslot s := by
  subst h; rfl
/-- likewise a semaphore, -/
theorem cell_name {o : Fin 1 → Nat} {s : Fin 4} (h : o = ![s.val]) (hin : ∀ a, o a + S1.size a ≤ S4.size a) :
    (cc0_scratch2.slice (Rect.unit (s := S4) o S1.size hin)).squeeze S_ squeezes_S1_S_ = rcell s := by
  subst h; rfl
/-- and a block of the hidden states. -/
theorem block_name {o : Fin 2 → Nat} {b : Fin 16} (h : o = ![512 * b.val, 0]) (hin : ∀ a, o a + S512x2048.size a ≤ S8192x2048.size a) :
    mX.slice (Rect.unit (s := S8192x2048) o S512x2048.size hin) (fun _ => rfl) = xblock b := by
  subst h; rfl

section Families
variable (c : Dev nD) (W : BufAt (F := F) c mX)
/-- The hidden states are lent to the four slots by share: one read share for each slot. -/
abbrev shareOf (s : Fin 4) : PosShare TreeShare :=
  if s.val = 0 then fullShare.left else if s.val = 1 then fullShare.right.left
  else if s.val = 2 then fullShare.right.right.left else fullShare.right.right.right
/-- Slot `s` held at the contents `f`. -/
abbrev slotHeld (s : Fin 4) (f : BufAt (F := F) c (rslot s)) : sProp 𝕄 :=
  (rslot s).view.loc (c : Thread nD τ) ↦[(rslot s).view.set]{fullShare} f
/-- Semaphore `s` at zero. -/
abbrev cellP (s : Fin 4) : sProp 𝕄 := semVal ((c : Thread nD τ), rcellLoc s) 0
/-- Block `b` of slot `s`'s share of the hidden states, -/
abbrev blockHeld (s : Fin 4) (b : Fin 16) : sProp 𝕄 :=
  (xblock b).view.loc (c : Thread nD τ) ↦[(xblock b).view.set]{shareOf s} W
/-- the rest of that share, -/
def restHeld (s : Fin 4) (b : Fin 16) : sProp 𝕄 :=
  ((c : Thread nD τ).loc main_v0) ↦[Finset.univ \ (xblock b).view.set]{shareOf s} W
/-- and the share whole. -/
abbrev shareHeld (s : Fin 4) : sProp 𝕄 := ((c : Thread nD τ).loc main_v0) ↦[Finset.univ]{shareOf s} W
/-- Slot `s`'s contents once block `b` has landed in it, over `f`. -/
abbrev landed (s : Fin 4) (b : Fin 16) (f : BufAt (F := F) c (rslot s)) : BufAt (F := F) c (rslot s) :=
  (rslot s).view.writes (Elt F) f [⟨Rect.whole S512x2048, ReadAs.same.apply ((xblock b).view.read (Elt F) W)⟩]
/-- The transfer of block `b` into slot `s` in flight: it delivers the slot landed and the lent block back. -/
abbrev flying (s : Fin 4) (b : Fin 16) (f : BufAt (F := F) c (rslot s)) : sProp 𝕄 :=
  Transfers.Flight countersEmb (c : Thread nD τ) (rcellLoc s) default ((rslot s).view.amount (rcellLoc s))
    iprop(slotHeld c s (landed c W s b f) ∗ blockHeld c W s b)
/-- A slot not in flight carries its share whole; a flight carries the rest of its share; no block is kept. -/
abbrev slotP (s : Fin 4) (f : BufAt (F := F) c (rslot s)) : sProp 𝕄 := iprop(slotHeld c s f ∗ shareHeld c W s)
abbrev flightP (s : Fin 4) (b : Fin 16) (f : BufAt (F := F) c (rslot s)) : sProp 𝕄 := iprop(flying c W s b f ∗ restHeld c W s b)
abbrev noHome (b : Fin 16) : sProp 𝕄 := iprop(emp)
/-- The ring before point `k`: every slot free before the first; from then on blocks `k` to `k + 2` in flight
    (while they exist) and the fourth slot free. -/
def ringAt (k : ℕ) : sProp 𝕄 :=
  if k = 0 then Ring.At₀ (cellP c) (slotP c W) noHome
  else Ring.At 3 (cellP c) (slotP c W) noHome (flightP c W) k
omit [FloatOps F] in
theorem cellP_eq {s : Fin 4} {x : SemLoc sig} (h : rcellLoc s = x) : cellP (F := F) c s = semVal ((c : Thread nD τ), x) 0 :=
  congrArg (fun x => (semVal ((c : Thread nD τ), x) 0 : sProp 𝕄)) h
end Families

/-! ### The slots are disjoint and cover the scratch buffer -/

abbrev slotSet (s : Fin 4) : Finset S4x512x2048.Idx :=
  (Rect.unit (s := S4x512x2048) ![s.val, 0, 0] S1x512x2048.size (inb_slot s)).set
theorem slotSet_eq (s : Fin 4) : (rslot s).view.set = slotSet s := by
  simp only [rslot, Memref.view_squeeze, View.set_reshape]; exact View.set_slice_whole _ _
theorem slots_disjoint (s s' : Fin 4) (h : s ≠ s') : Disjoint (slotSet s) (slotSet s') :=
  Ring.lead_disjoint (s := S4x512x2048) (0 : Fin 3) 1 (fun s : Fin 4 => (![s.val, 0, 0] : Fin 3 → Nat)) S1x512x2048.size inb_slot (fun s => by simp) rfl s s' h
theorem slots_cover : Finset.univ.biUnion slotSet = Finset.univ :=
  Ring.lead_cover (s := S4x512x2048) (0 : Fin 3) 1 (fun s : Fin 4 => (![s.val, 0, 0] : Fin 3 → Nat)) S1x512x2048.size inb_slot (fun s => by simp)
    (fun s a ha => by fin_cases a <;> first | exact absurd rfl ha | rfl) rfl (fun a ha => by fin_cases a <;> first | exact absurd rfl ha | rfl) rfl

/-! ### What the launch hands the ring, and takes back -/

section InOut
variable (c : Dev nD) (W : BufAt (F := F) c mX)
theorem slotHeld_eq (s : Fin 4) (f) :
    slotHeld (F := F) c s f = (((c : Thread nD τ).loc cc0_scratch0) ↦[slotSet s]{fullShare} f : sProp 𝕄) := by
  unfold slotHeld; rw [slotSet_eq]; rfl
/-- A slot's share of the hidden states is one block and the rest. -/
theorem share_split (s : Fin 4) (b : Fin 16) : shareHeld (F := F) c W s ⊣⊢ iprop(blockHeld c W s b ∗ restHeld c W s b) := by
  unfold restHeld; exact pointsTo_split_subset (Finset.subset_univ _)
/-- The hidden states whole are the four shares. -/
theorem whole_split : (wholeAt c mX W : sProp 𝕄) ⊣⊢ iprop(shareHeld c W 0 ∗ shareHeld c W 1 ∗ shareHeld c W 2 ∗ shareHeld c W 3) := by
  refine ⟨?_, ?_⟩
  · iintro H
    ihave G0 := (pointsTo_share (PosShare.mem_left_op_right fullShare)).1 $$ H
    icases G0 with ⟨H0, R1⟩
    ihave G1 := (pointsTo_share (PosShare.mem_left_op_right fullShare.right)).1 $$ R1
    icases G1 with ⟨H1, R2⟩
    ihave G2 := (pointsTo_share (PosShare.mem_left_op_right fullShare.right.right)).1 $$ R2
    icases G2 with ⟨H2, H3⟩
    isplitl [H0]; · iexact H0
    isplitl [H1]; · iexact H1
    isplitl [H2]; · iexact H2
    iexact H3
  · iintro ⟨H0, H1, H2, H3⟩
    iapply (pointsTo_share (PosShare.mem_left_op_right fullShare)).2
    isplitl [H0]; · iexact H0
    iapply (pointsTo_share (PosShare.mem_left_op_right fullShare.right)).2
    isplitl [H1]; · iexact H1
    iapply (pointsTo_share (PosShare.mem_left_op_right fullShare.right.right)).2
    isplitl [H2]; · iexact H2
    iexact H3
/-- The four slots, each at something. -/
abbrev slotsHeld : sProp 𝕄 :=
  iprop((∃ f, slotHeld (F := F) c 0 f) ∗ (∃ f, slotHeld (F := F) c 1 f) ∗ (∃ f, slotHeld (F := F) c 2 f) ∗ ∃ f, slotHeld (F := F) c 3 f)
set_option maxHeartbeats 1000000 in
/-- The scratch buffer whole is its four slots, -/
theorem slots_in : iprop(∃ d, owns (c : Thread nD τ) mRing fullShare d) ⊢ slotsHeld (F := F) c := by
  simp only [mRing, owns_whole]
  exact Ring.slots4_split (U := Pipeline.UD sig nD τ) (ℓ := (c : Thread nD τ).loc cc0_scratch0) (q := fullShare) slotSet slots_disjoint slots_cover
    (slotHeld c 0) (slotHeld c 1) (slotHeld c 2) (slotHeld c 3) (slotHeld_eq c 0) (slotHeld_eq c 1) (slotHeld_eq c 2) (slotHeld_eq c 3)
set_option maxHeartbeats 1000000 in
/-- and back. -/
theorem slots_out : slotsHeld (F := F) c ⊢ iprop(∃ d, owns (c : Thread nD τ) mRing fullShare d) := by
  simp only [mRing, owns_whole]
  exact Ring.slots4_join (U := Pipeline.UD sig nD τ) (ℓ := (c : Thread nD τ).loc cc0_scratch0) (q := fullShare) slotSet slots_disjoint slots_cover
    (slotHeld c 0) (slotHeld c 1) (slotHeld c 2) (slotHeld c 3) (slotHeld_eq c 0) (slotHeld_eq c 1) (slotHeld_eq c 2) (slotHeld_eq c 3)
end InOut

/-- What the launch hands over is the ring before the first point. -/
theorem ring_in (c : Dev nD) :
    iprop((∃ d, owns (c : Thread nD τ) mRing fullShare d) ∗ cellsZero c ∗ wholeAt c mX (V m c main_v0))
      ⊢ ringAt c (V m c main_v0) 0 := by
  unfold ringAt; rw [if_pos rfl]; unfold Ring.At₀
  rw [Ring.bigSep_fin4]
  simp only [Ring.free, cellP_eq c rcellLoc_0, cellP_eq c rcellLoc_1, cellP_eq c rcellLoc_2, cellP_eq c rcellLoc_3]
  iintro ⟨HS, Hc, HW⟩
  iapply Ring.with_homes₀
  icases Hc with ⟨H0, H1, H2, H3⟩
  ihave HS' := (slots_in (F := F) c) $$ HS
  icases HS' with ⟨⟨%d0, HS0⟩, ⟨%d1, HS1⟩, ⟨%d2, HS2⟩, ⟨%d3, HS3⟩⟩
  ihave HW' := (whole_split (F := F) c (V m c main_v0)).1 $$ HW
  icases HW' with ⟨HW0, HW1, HW2, HW3⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  isplitl [H2 HS2 HW2]
  · isplitl [H2]; · iexact H2
    iexists d2; isplitl [HS2]; · iexact HS2
    iexact HW2
  · isplitl [H3]; · iexact H3
    iexists d3; isplitl [HS3]; · iexact HS3
    iexact HW3
/-- The ring after the last point gives it back. -/
theorem ring_out (c : Dev nD) :
    ringAt c (V m c main_v0) 16
      ⊢ iprop((∃ d, owns (c : Thread nD τ) mRing fullShare d) ∗ cellsZero c ∗ wholeAt c mX (V m c main_v0)) := by
  unfold ringAt; rw [if_neg (by decide)]
  iintro H
  ihave H' := (Ring.free4_of_At_last _ _ _ _) $$ H
  simp only [Ring.free, cellP_eq c rcellLoc_0, cellP_eq c rcellLoc_1, cellP_eq c rcellLoc_2, cellP_eq c rcellLoc_3]
  icases H' with ⟨-, ⟨H0, ⟨%f0, HS0, HW0⟩⟩, ⟨H1, ⟨%f1, HS1, HW1⟩⟩, ⟨H2, ⟨%f2, HS2, HW2⟩⟩, ⟨H3, ⟨%f3, HS3, HW3⟩⟩⟩
  isplitl [HS0 HS1 HS2 HS3]
  · iapply (slots_out (F := F) c); isplitl [HS0]; · iexists f0; iexact HS0
    isplitl [HS1]; · iexists f1; iexact HS1
    isplitl [HS2]; · iexists f2; iexact HS2
    iexists f3; iexact HS3
  isplitl [H0 H1 H2 H3]
  · isplitl [H0]; · iexact H0
    isplitl [H1]; · iexact H1
    isplitl [H2]; · iexact H2
    iexact H3
  · iapply (whole_split (F := F) c (V m c main_v0)).2; isplitl [HW0]; · iexact HW0
    isplitl [HW1]; · iexact HW1
    isplitl [HW2]; · iexact HW2
    iexact HW3

/-! ### The offsets the program computes -/

section Offsets
set_option synthInstance.maxSize 4096
/-- The offsets of the slot, the semaphore and the block of the point three ahead, -/
theorem off_slot_next : ∀ t : Fin grid0.N, k0_off2 (grid0.coords t) = ![(Ring.sl 4 (t.val + 3)).val, 0, 0] := by decide +kernel
theorem off_cell_next : ∀ t : Fin grid0.N, k0_off1 (grid0.coords t) = ![(Ring.sl 4 (t.val + 3)).val] := by decide +kernel
theorem off_block_next : ∀ t : Fin grid0.N, hasNext (grid0.coords t) →
    k0_off3 (grid0.coords t) = ![512 * (Ring.bk 16 (t.val + 3)).val, 0] := by decide +kernel
/-- and of this point's, as waited for -/
theorem off_slot_here : ∀ t : Fin grid0.N, k0_off5 (grid0.coords t) = ![(Ring.sl 4 t.val).val, 0, 0] := by decide +kernel
theorem off_cell_here : ∀ t : Fin grid0.N, k0_off4 (grid0.coords t) = ![(Ring.sl 4 t.val).val] := by decide +kernel
/-- and as read. -/
theorem off_read_here : ∀ t : Fin grid0.N, k0_off7 (grid0.coords t) = ![(Ring.sl 4 t.val).val, 0, 0] := by decide +kernel
instance (priority := high) closedOff_read_here (t : Fin grid0.N) : ClosedOff (k0_off7 (grid0.coords t)) :=
  ⟨![(Ring.sl 4 t.val).val, 0, 0], off_read_here t⟩
end Offsets

end Cert.Gating

end
-- ==== Proof.Run.lean ====
/- The body's run at a grid point, in its three cases: the first point, where it normalises the expert embeddings and
   starts the ring; the points that still start a block three ahead; and the last three, which start none. Each is
   stated with what the two output buffers and the scratch buffer of the normalised embeddings hold afterwards. -/
module

public import proofs.«01_k».proof.Proof.Ring
public import Idealize.ShloMosaic.Lib.VecWindow
public import Idealize.ShloMosaic.Lib.Pipeline.Value

@[expose] public section

set_option maxRecDepth 16384

noncomputable section

namespace Cert.Gating

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What a point reads and what it leaves -/

theorem casts_row : S512x2048.ShapeCasts S1x512x2048 := by decide
/-- Block `b` of the hidden states as the body reads it from a slot, with the slot's leading axis. -/
def slotRow (c : Dev nD) (W : BufAt (F := F) c mX) (b : Fin 16) : Vec F S1x512x2048 .f32 :=
  shapeCast S1x512x2048 ((xblock b).view.read (Elt F) W) casts_row
/-- The logits' block the body stores for block `b`, -/
def logitsOf (c : Dev nD) (W : BufAt (F := F) c mX) (b : Fin 16) (sn : Vec F S2048x64 .bf16) (em : Vec F S1x64 .f32) : Vec F S512x64 .f32 :=
  k0_pay2 (slotRow c W b) sn em
/-- and the mask's. -/
def maskOf (c : Dev nD) (W : BufAt (F := F) c mX) (b : Fin 16) (sn : Vec F S2048x64 .bf16) (em gates : Vec F S1x64 .f32) (temp : Vec F S1x1 .f32) :
    Vec F S512x64 .f32 :=
  k0_pay3 (logitsOf c W b sn em) gates temp

/-- A slot in which block `b` has landed reads that block, whatever was there before. -/
theorem slot_read (c : Dev nD) (W : BufAt (F := F) c mX) (s : Fin 4) (b : Fin 16) (f : BufAt (F := F) c (rslot s)) {o : Fin 3 → Nat}
    (h : o = ![s.val, 0, 0]) (inb : ∀ a, o a + S1x512x2048.size a ≤ S4x512x2048.size a) :
    mRing.view.readAt (Elt F) (Rect.unit (s := S4x512x2048) o S1x512x2048.size inb).toLoadRect (landed c W s b f) = slotRow c W b := by
  subst h
  have h1 := Memref.read_squeeze_slice (Val := Elt F) mRing (Rect.unit (s := S4x512x2048) ![s.val, 0, 0] S1x512x2048.size (inb_slot s)) (fun _ => rfl)
    squeezes_S1x512x2048_S512x2048 shapeCasts_S1x512x2048_S512x2048 (landed c W s b f)
  have h2 : (rslot s).view.read (Elt F) (landed c W s b f) = (xblock b).view.read (Elt F) W := View.read_writes_whole _ _ _
  unfold slotRow
  rw [← h2]
  refine Eq.trans ?_ (congrArg (fun x => shapeCast S1x512x2048 x casts_row) h1.symm)
  exact (shapeCast_shapeCast _ _ _).symm

theorem pay2_congr {a a' : Vec F S1x512x2048 .f32} {b b' : Vec F S2048x64 .bf16} {d d' : Vec F S1x64 .f32} (ha : a = a') (hb : b = b') (hd : d = d') :
    k0_pay2 a b d = k0_pay2 a' b' d' := by subst ha hb hd; rfl
theorem pay3_congr {a a' : Vec F S512x64 .f32} {b b' : Vec F S1x64 .f32} {d d' : Vec F S1x1 .f32} (ha : a = a') (hb : b = b') (hd : d = d') :
    k0_pay3 a b d = k0_pay3 a' b' d' := by subst ha hb hd; rfl
/-- A whole load of a whole memref reads its contents. -/
theorem load_whole {sp : Space} {S : Shape} {e : EltTy} {M : Memref sig .tc sp S e} (h : M.IsWhole) (x : Vec F S e) {o : Fin S.rank → Nat}
    (inb : ∀ a, o a + S.size a ≤ S.size a) : M.view.readAt (Elt F) (Rect.unit o S.size inb).toLoadRect (h.unread x) = x :=
  (View.readAt_full _ _ inb).trans (h.read_unread x)

/-! ## The three runs -/

set_option maxHeartbeats 1000000 in
/-- The first point, its slots all free: it normalises the embeddings into the scratch buffer and starts blocks 0 to 3. -/
theorem run_first (c : Dev nD) (t : Fin cfg0.N) (arg2 : Memref sig .tc .vmem S2048x64 .f32) (harg2 : arg2.IsWhole) (arg3 : Memref sig .tc .vmem S1x64 .f32) (harg3 : arg3.IsWhole)
    (arg4 : Memref sig .tc .vmem S1x1 .f32) (harg4 : arg4.IsWhole) (arg5 : Memref sig .tc .vmem S1x64 .f32) (harg5 : arg5.IsWhole) (arg6 : Memref sig .tc .vmem S512x64 .f32) (harg6 : arg6.IsWhole)
    (arg7 : Memref sig .tc .vmem S512x64 .f32) (harg7 : arg7.IsWhole) (arg9 : Memref sig .tc .vmem S2048x64 .bf16) (harg9 : arg9.IsWhole)
    (hc0 : atFirst (grid0.coords t)) (hc1 : hasNext (grid0.coords t))
    (x0 : Vec F S2048x64 .f32) (x1 : Vec F S1x64 .f32) (x2 : Vec F S1x1 .f32) (x3 : Vec F S1x64 .f32) (fh0 : BufAt (F := F) c mX) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg9 fullShare d)
        ∗ Ring.free (cellP c) (slotP c fh0) (Ring.sl 4 t.val)
        ∗ Ring.free (cellP c) (slotP c fh0) (Ring.sl 4 (t.val + 1))
        ∗ Ring.free (cellP c) (slotP c fh0) (Ring.sl 4 (t.val + 2))
        ∗ Ring.free (cellP c) (slotP c fh0) (Ring.sl 4 (t.val + 3))
        ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (maskOf c fh0 (Ring.bk 16 t.val) (k0_pay1 x0) x3 x1 x2) ∗ owns (c : Thread nD τ) arg7 fullShare (logitsOf c fh0 (Ring.bk 16 t.val) (k0_pay1 x0) x3)
            ∗ owns (c : Thread nD τ) arg9 fullShare (k0_pay1 x0)
            ∗ Ring.inflight (flightP c fh0) (Ring.sl 4 (t.val + 1)) (Ring.bk 16 (t.val + 1))
            ∗ Ring.inflight (flightP c fh0) (Ring.sl 4 (t.val + 2)) (Ring.bk 16 (t.val + 2))
            ∗ Ring.inflight (flightP c fh0) (Ring.sl 4 (t.val + 3)) (Ring.bk 16 (t.val + 3))
            ∗ Ring.free (cellP c) (slotP c fh0) (Ring.sl 4 t.val)
            ∗ (∃ W', owes (c : Thread nD τ) 0 W')) -∗ K ⟨⟩))
      ⊢ wp frame (wpE (defs₀ (F := F)) Variants.none c none) Set.univ
          (cc0__gating_body (grid0.coords t) (Memref.whole main_v0) (Memref.isWhole_whole _) arg2 harg2 arg3 harg3 arg4 harg4 arg5 harg5 arg6 harg6 arg7 harg7
            mRing (Memref.isWhole_whole _) arg9 harg9 cc0_scratch2) K := by
  have ht := (atFirst_iff t).1 hc0
  haveI : Fact (atFirst (grid0.coords t)) := ⟨hc0⟩
  haveI : Fact (hasNext (grid0.coords t)) := ⟨hc1⟩
  simp only [cc0__gating_body_eq_skeleton]; unfold cc0__gating_body_skel
  simp only [k0_part1_eq_skeleton, k0_part2_eq_skeleton]
  have hcanon0 := slot_name (o := ![0, 0, 0]) (s := Ring.sl 4 t.val) (by rw [ht]; decide) inb_S4x512x2048_S1x512x2048_0_0_0
  have hcanon1 := cell_name (o := ![0]) (s := Ring.sl 4 t.val) (by rw [ht]; decide) inb_S4_S1_0
  have hcanon2 := block_name (o := ![0, 0]) (b := Ring.bk 16 t.val) (by rw [ht]; decide) inb_S8192x2048_S512x2048_0_0
  have hcanon3 := slot_name (o := ![1, 0, 0]) (s := Ring.sl 4 (t.val + 1)) (by rw [ht]; decide) inb_S4x512x2048_S1x512x2048_1_0_0
  have hcanon4 := cell_name (o := ![1]) (s := Ring.sl 4 (t.val + 1)) (by rw [ht]; decide) inb_S4_S1_1
  have hcanon5 := block_name (o := ![512, 0]) (b := Ring.bk 16 (t.val + 1)) (by rw [ht]; decide) inb_S8192x2048_S512x2048_512_0
  have hcanon6 := slot_name (o := ![2, 0, 0]) (s := Ring.sl 4 (t.val + 2)) (by rw [ht]; decide) inb_S4x512x2048_S1x512x2048_2_0_0
  have hcanon7 := cell_name (o := ![2]) (s := Ring.sl 4 (t.val + 2)) (by rw [ht]; decide) inb_S4_S1_2
  have hcanon8 := block_name (o := ![1024, 0]) (b := Ring.bk 16 (t.val + 2)) (by rw [ht]; decide) inb_S8192x2048_S512x2048_1024_0
  have hcanon9 := slot_name (off_slot_next t) (k0_off2_inb (grid0.coords t) hc1)
  have hcanon10 := cell_name (off_cell_next t) (k0_off1_inb (grid0.coords t) hc1)
  have hcanon11 := block_name (off_block_next t hc1) (k0_off3_inb (grid0.coords t) hc1)
  have hcanon12 := slot_name (off_slot_here t) (k0_off5_inb (grid0.coords t))
  have hcanon13 := cell_name (off_cell_here t) (k0_off4_inb (grid0.coords t))
  clear ht
  unfold owns Ring.free Ring.inflight
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds1, %fs1, -, HS1⟩, ⟨Hc0, ⟨%fs0, Hs0, Hw0⟩⟩, ⟨Hc1, ⟨%fs1, Hs1, Hw1⟩⟩, ⟨Hc2, ⟨%fs2, Hs2, Hw2⟩⟩, ⟨Hc3, ⟨%fs3, Hs3, Hw3⟩⟩, HW, Hk⟩
  ihave Hsp0 := (share_split c fh0 (Ring.sl 4 t.val) (Ring.bk 16 t.val)).1 $$ Hw0
  icases Hsp0 with ⟨Hh0, Hr0⟩
  ihave Hsp1 := (share_split c fh0 (Ring.sl 4 (t.val + 1)) (Ring.bk 16 (t.val + 1))).1 $$ Hw1
  icases Hsp1 with ⟨Hh1, Hr1⟩
  ihave Hsp2 := (share_split c fh0 (Ring.sl 4 (t.val + 2)) (Ring.bk 16 (t.val + 2))).1 $$ Hw2
  icases Hsp2 with ⟨Hh2, Hr2⟩
  ihave Hsp3 := (share_split c fh0 (Ring.sl 4 (t.val + 3)) (Ring.bk 16 (t.val + 3))).1 $$ Hw3
  icases Hsp3 with ⟨Hh3, Hr3⟩
  obtain rfl := harg2.eq_unread hf0; obtain rfl := harg3.eq_unread hf1; obtain rfl := harg4.eq_unread hf2; obtain rfl := harg5.eq_unread hf3
  sl_exec (disch := first | sl_exact hc0 | sl_exact hc1)
  sl_step
  sl_unfold_words
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    exact (View.read_writes_full _ _ _ _ _).trans (pay3_congr (pay2_congr (slot_read c fh0 _ _ _ (off_read_here t) _)
      ((View.readCov_full _ _ _ _ _).trans (congrArg k0_pay1 (load_whole harg2 x0 _))) (load_whole harg5 x3 _)) (load_whole harg3 x1 _) (load_whole harg4 x2 _))
  isplitl [H5]
  · iexists _; isplitr
    swap; · iexact H5
    ipureintro
    exact (View.read_writes_full _ _ _ _ _).trans (pay2_congr (slot_read c fh0 _ _ _ (off_read_here t) _) ((View.readCov_full _ _ _ _ _).trans (congrArg k0_pay1 (load_whole harg2 x0 _))) (load_whole harg5 x3 _))
  isplitl [HS1]
  · iexists _; isplitr
    swap; · iexact HS1
    ipureintro
    exact (View.read_writes_full _ _ _ _ _).trans (congrArg k0_pay1 (load_whole harg2 x0 _))
  isplitl [Hc1 Hr1]
  · iexists _; isplitl [Hc1]; · iexact Hc1
    iexact Hr1
  isplitl [Hc2 Hr2]
  · iexists _; isplitl [Hc2]; · iexact Hc2
    iexact Hr2
  isplitl [Hc3 Hr3]
  · iexists _; isplitl [Hc3]; · iexact Hc3
    iexact Hr3
  isplitl [Hc0 Hs0 Hh0 Hr0]
  · isplitl [Hc0]; · iexact Hc0
    iexists _; isplitl [Hs0]; · iexact Hs0
    iapply (share_split c fh0 (Ring.sl 4 t.val) (Ring.bk 16 t.val)).2; isplitl [Hh0]; · iexact Hh0
    iexact Hr0
  iexists _; iexact HW

set_option maxHeartbeats 1000000 in
/-- A later point before point 13, three blocks in flight: it takes its own, starts the one three ahead and reads the kept embeddings `sn`. -/
theorem run_middle (c : Dev nD) (t : Fin cfg0.N) (arg2 : Memref sig .tc .vmem S2048x64 .f32) (harg2 : arg2.IsWhole) (arg3 : Memref sig .tc .vmem S1x64 .f32) (harg3 : arg3.IsWhole)
    (arg4 : Memref sig .tc .vmem S1x1 .f32) (harg4 : arg4.IsWhole) (arg5 : Memref sig .tc .vmem S1x64 .f32) (harg5 : arg5.IsWhole) (arg6 : Memref sig .tc .vmem S512x64 .f32) (harg6 : arg6.IsWhole)
    (arg7 : Memref sig .tc .vmem S512x64 .f32) (harg7 : arg7.IsWhole) (arg9 : Memref sig .tc .vmem S2048x64 .bf16) (harg9 : arg9.IsWhole)
    (hc0 : ¬atFirst (grid0.coords t)) (hc1 : hasNext (grid0.coords t))
    (x0 : Vec F S2048x64 .f32) (x1 : Vec F S1x64 .f32) (x2 : Vec F S1x1 .f32) (x3 : Vec F S1x64 .f32) (fh0 : BufAt (F := F) c mX) (sn : Vec F S2048x64 .bf16) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ owns (c : Thread nD τ) arg9 fullShare sn
        ∗ Ring.inflight (flightP c fh0) (Ring.sl 4 t.val) (Ring.bk 16 t.val)
        ∗ Ring.inflight (flightP c fh0) (Ring.sl 4 (t.val + 1)) (Ring.bk 16 (t.val + 1))
        ∗ Ring.inflight (flightP c fh0) (Ring.sl 4 (t.val + 2)) (Ring.bk 16 (t.val + 2))
        ∗ Ring.free (cellP c) (slotP c fh0) (Ring.sl 4 (t.val + 3))
        ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (maskOf c fh0 (Ring.bk 16 t.val) sn x3 x1 x2) ∗ owns (c : Thread nD τ) arg7 fullShare (logitsOf c fh0 (Ring.bk 16 t.val) sn x3)
            ∗ owns (c : Thread nD τ) arg9 fullShare sn
            ∗ Ring.inflight (flightP c fh0) (Ring.sl 4 (t.val + 1)) (Ring.bk 16 (t.val + 1))
            ∗ Ring.inflight (flightP c fh0) (Ring.sl 4 (t.val + 2)) (Ring.bk 16 (t.val + 2))
            ∗ Ring.inflight (flightP c fh0) (Ring.sl 4 (t.val + 3)) (Ring.bk 16 (t.val + 3))
            ∗ Ring.free (cellP c) (slotP c fh0) (Ring.sl 4 t.val)
            ∗ (∃ W', owes (c : Thread nD τ) 0 W')) -∗ K ⟨⟩))
      ⊢ wp frame (wpE (defs₀ (F := F)) Variants.none c none) Set.univ
          (cc0__gating_body (grid0.coords t) (Memref.whole main_v0) (Memref.isWhole_whole _) arg2 harg2 arg3 harg3 arg4 harg4 arg5 harg5 arg6 harg6 arg7 harg7
            mRing (Memref.isWhole_whole _) arg9 harg9 cc0_scratch2) K := by
  haveI : Fact (¬atFirst (grid0.coords t)) := ⟨hc0⟩
  haveI : Fact (hasNext (grid0.coords t)) := ⟨hc1⟩
  simp only [cc0__gating_body_eq_skeleton]; unfold cc0__gating_body_skel
  simp only [k0_part1_eq_skeleton, k0_part2_eq_skeleton]
  have hcanon0 := slot_name (off_slot_next t) (k0_off2_inb (grid0.coords t) hc1)
  have hcanon1 := cell_name (off_cell_next t) (k0_off1_inb (grid0.coords t) hc1)
  have hcanon2 := block_name (off_block_next t hc1) (k0_off3_inb (grid0.coords t) hc1)
  have hcanon3 := slot_name (off_slot_here t) (k0_off5_inb (grid0.coords t))
  have hcanon4 := cell_name (off_cell_here t) (k0_off4_inb (grid0.coords t))
  unfold owns Ring.free Ring.inflight
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs1, %hfs1, HS1⟩, ⟨%ff0, Hf0, Hrf0⟩, ⟨%ff1, Hf1, Hrf1⟩, ⟨%ff2, Hf2, Hrf2⟩, ⟨Hc3, ⟨%fs3, Hs3, Hw3⟩⟩, HW, Hk⟩
  ihave Hsp3 := (share_split c fh0 (Ring.sl 4 (t.val + 3)) (Ring.bk 16 (t.val + 3))).1 $$ Hw3
  icases Hsp3 with ⟨Hh3, Hr3⟩
  obtain rfl := harg2.eq_unread hf0; obtain rfl := harg3.eq_unread hf1; obtain rfl := harg4.eq_unread hf2; obtain rfl := harg5.eq_unread hf3; obtain rfl := harg9.eq_unread hfs1
  sl_exec (disch := first | sl_exact hc0 | sl_exact hc1)
  sl_step
  sl_unfold_words
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    exact (View.read_writes_full _ _ _ _ _).trans (pay3_congr (pay2_congr (slot_read c fh0 _ _ _ (off_read_here t) _)
      (load_whole harg9 sn _) (load_whole harg5 x3 _)) (load_whole harg3 x1 _) (load_whole harg4 x2 _))
  isplitl [H5]
  · iexists _; isplitr
    swap; · iexact H5
    ipureintro
    exact (View.read_writes_full _ _ _ _ _).trans (pay2_congr (slot_read c fh0 _ _ _ (off_read_here t) _) (load_whole harg9 sn _) (load_whole harg5 x3 _))
  isplitl [HS1]
  · iexists _; isplitr
    swap; · iexact HS1
    ipureintro
    exact harg9.read_unread _
  isplitl [Hf1 Hrf1]
  · iexists ff1; isplitl [Hf1]; · iexact Hf1
    iexact Hrf1
  isplitl [Hf2 Hrf2]
  · iexists ff2; isplitl [Hf2]; · iexact Hf2
    iexact Hrf2
  isplitl [Hc3 Hr3]
  · iexists _; isplitl [Hc3]; · iexact Hc3
    iexact Hr3
  isplitl [Hf0 Hf0_dst Hf0_src Hrf0]
  · isplitl [Hf0]; · iexact Hf0
    iexists _; isplitl [Hf0_dst]; · iexact Hf0_dst
    iapply (share_split c fh0 (Ring.sl 4 t.val) (Ring.bk 16 t.val)).2; isplitl [Hf0_src]; · iexact Hf0_src
    iexact Hrf0
  iexists _; iexact HW

set_option maxHeartbeats 1000000 in
/-- One of the last three points: as before, and nothing is started. -/
theorem run_last (c : Dev nD) (t : Fin cfg0.N) (arg2 : Memref sig .tc .vmem S2048x64 .f32) (harg2 : arg2.IsWhole) (arg3 : Memref sig .tc .vmem S1x64 .f32) (harg3 : arg3.IsWhole)
    (arg4 : Memref sig .tc .vmem S1x1 .f32) (harg4 : arg4.IsWhole) (arg5 : Memref sig .tc .vmem S1x64 .f32) (harg5 : arg5.IsWhole) (arg6 : Memref sig .tc .vmem S512x64 .f32) (harg6 : arg6.IsWhole)
    (arg7 : Memref sig .tc .vmem S512x64 .f32) (harg7 : arg7.IsWhole) (arg9 : Memref sig .tc .vmem S2048x64 .bf16) (harg9 : arg9.IsWhole)
    (hc0 : ¬atFirst (grid0.coords t)) (hc1 : ¬hasNext (grid0.coords t))
    (x0 : Vec F S2048x64 .f32) (x1 : Vec F S1x64 .f32) (x2 : Vec F S1x1 .f32) (x3 : Vec F S1x64 .f32) (fh0 : BufAt (F := F) c mX) (sn : Vec F S2048x64 .bf16) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ owns (c : Thread nD τ) arg9 fullShare sn
        ∗ Ring.inflight (flightP c fh0) (Ring.sl 4 t.val) (Ring.bk 16 t.val)
        ∗ Ring.slotAt 3 (cellP c) (slotP c fh0) (flightP c fh0) t.val 1
        ∗ Ring.slotAt 3 (cellP c) (slotP c fh0) (flightP c fh0) t.val 2
        ∗ Ring.free (cellP c) (slotP c fh0) (Ring.sl 4 (t.val + 3))
        ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (maskOf c fh0 (Ring.bk 16 t.val) sn x3 x1 x2) ∗ owns (c : Thread nD τ) arg7 fullShare (logitsOf c fh0 (Ring.bk 16 t.val) sn x3)
            ∗ owns (c : Thread nD τ) arg9 fullShare sn
            ∗ Ring.slotAt 3 (cellP c) (slotP c fh0) (flightP c fh0) t.val 1
            ∗ Ring.slotAt 3 (cellP c) (slotP c fh0) (flightP c fh0) t.val 2
            ∗ Ring.free (cellP c) (slotP c fh0) (Ring.sl 4 (t.val + 3))
            ∗ Ring.free (cellP c) (slotP c fh0) (Ring.sl 4 t.val)
            ∗ (∃ W', owes (c : Thread nD τ) 0 W')) -∗ K ⟨⟩))
      ⊢ wp frame (wpE (defs₀ (F := F)) Variants.none c none) Set.univ
          (cc0__gating_body (grid0.coords t) (Memref.whole main_v0) (Memref.isWhole_whole _) arg2 harg2 arg3 harg3 arg4 harg4 arg5 harg5 arg6 harg6 arg7 harg7
            mRing (Memref.isWhole_whole _) arg9 harg9 cc0_scratch2) K := by
  haveI : Fact (¬atFirst (grid0.coords t)) := ⟨hc0⟩
  haveI : Fact (¬hasNext (grid0.coords t)) := ⟨hc1⟩
  simp only [cc0__gating_body_eq_skeleton]; unfold cc0__gating_body_skel
  simp only [k0_part1_eq_skeleton, k0_part2_eq_skeleton]
  have hcanon0 := slot_name (off_slot_here t) (k0_off5_inb (grid0.coords t))
  have hcanon1 := cell_name (off_cell_here t) (k0_off4_inb (grid0.coords t))
  unfold owns Ring.free Ring.inflight
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs1, %hfs1, HS1⟩, ⟨%ff0, Hf0, Hrf0⟩, Hro1, Hro2, ⟨Hc3, ⟨%fs3, Hs3, Hw3⟩⟩, HW, Hk⟩
  obtain rfl := harg2.eq_unread hf0; obtain rfl := harg3.eq_unread hf1; obtain rfl := harg4.eq_unread hf2; obtain rfl := harg5.eq_unread hf3; obtain rfl := harg9.eq_unread hfs1
  sl_exec (disch := first | sl_exact hc0 | sl_exact hc1)
  sl_step
  sl_unfold_words
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    exact (View.read_writes_full _ _ _ _ _).trans (pay3_congr (pay2_congr (slot_read c fh0 _ _ _ (off_read_here t) _)
      (load_whole harg9 sn _) (load_whole harg5 x3 _)) (load_whole harg3 x1 _) (load_whole harg4 x2 _))
  isplitl [H5]
  · iexists _; isplitr
    swap; · iexact H5
    ipureintro
    exact (View.read_writes_full _ _ _ _ _).trans (pay2_congr (slot_read c fh0 _ _ _ (off_read_here t) _) (load_whole harg9 sn _) (load_whole harg5 x3 _))
  isplitl [HS1]
  · iexists _; isplitr
    swap; · iexact HS1
    ipureintro
    exact harg9.read_unread _
  isplitl [Hro1]; · iexact Hro1
  isplitl [Hro2]; · iexact Hro2
  isplitl [Hc3 Hs3 Hw3]
  · isplitl [Hc3]; · iexact Hc3
    iexists _; isplitl [Hs3]; · iexact Hs3
    iexact Hw3
  isplitl [Hf0 Hf0_dst Hf0_src Hrf0]
  · isplitl [Hf0]; · iexact Hf0
    iexists _; isplitl [Hf0_dst]; · iexact Hf0_dst
    iapply (share_split c fh0 (Ring.sl 4 t.val) (Ring.bk 16 t.val)).2; isplitl [Hf0_src]; · iexact Hf0_src
    iexact Hrf0
  iexists _; iexact HW

end Cert.Gating

end
-- ==== Proof.Launch.lean ====
/- The kernel's launch: what each grid point finds and leaves, the body's obligation at every point, and the run of the
   whole program with its two result arrays named point by point. -/
module

public import proofs.«01_k».proof.Proof.Run

@[expose] public section

set_option maxRecDepth 16384

noncomputable section

namespace Cert.Gating

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the points find and leave -/

/-- The first point. -/
abbrev t0 : Fin cfg0.N := ⟨0, by rw [show cfg0.N = 16 from N_0]; decide⟩
/-- The normalised expert embeddings, as the first point computes them. -/
def simn (c : Dev nD) : Vec F S2048x64 .bf16 := k0_pay1 (iblk m c 0 t0)
/-- The scratch buffer of the normalised embeddings before point `k`. -/
def simnAt (c : Dev nD) (k : ℕ) : sProp 𝕄 :=
  if k = 0 then iprop(∃ d, owns (c : Thread nD τ) mSimn fullShare d) else owns (c : Thread nD τ) mSimn fullShare (simn m c)
/-- The block of the logits point `t` leaves, and that of the mask. -/
def logitsAt (c : Dev nD) (t : Fin cfg0.N) : Vec F S512x64 .f32 :=
  logitsOf c (V m c main_v0) (Ring.bk 16 t.val) (simn m c) (iblk m c 3 t)
def maskAt (c : Dev nD) (t : Fin cfg0.N) : Vec F S512x64 .f32 :=
  maskOf c (V m c main_v0) (Ring.bk 16 t.val) (simn m c) (iblk m c 3 t) (iblk m c 1 t) (iblk m c 2 t)

/-- The invariant before point `k`: the generator's register, the normalised embeddings, the ring. -/
def PhiR (c : Dev nD) (k : ℕ) : sProp 𝕄 := iprop((∃ r, prngReg c r) ∗ simnAt m c k ∗ ringAt c (V m c main_v0) k)

/-- The four inputs a point reads, at their blocks. -/
abbrev inputsAt (c : Dev nD) (t : Fin cfg0.N) : sProp 𝕄 :=
  iprop(owns (c : Thread nD τ) (mSim t) fullShare (iblk m c 0 t) ∗ owns (c : Thread nD τ) (mGates t) fullShare (iblk m c 1 t)
    ∗ owns (c : Thread nD τ) (mTemp t) fullShare (iblk m c 2 t) ∗ owns (c : Thread nD τ) (mEm t) fullShare (iblk m c 3 t))

set_option maxHeartbeats 1200000 in
/-- The body at any point, from the ring and the kept embeddings before it to those after it. -/
theorem point_run (c : Dev nD) (t : Fin cfg0.N) (W : Waits sig Unit) (K : PUnit → sProp 𝕄) :
    iprop(inputsAt m c t ∗ (∃ d, owns (c : Thread nD τ) (mMask t) fullShare d) ∗ (∃ d, owns (c : Thread nD τ) (mLogits t) fullShare d)
        ∗ simnAt m c t.val ∗ ringAt c (V m c main_v0) t.val ∗ owes (c : Thread nD τ) 0 W
        ∗ (iprop(inputsAt m c t ∗ owns (c : Thread nD τ) (mMask t) fullShare (maskAt m c t) ∗ owns (c : Thread nD τ) (mLogits t) fullShare (logitsAt m c t)
            ∗ simnAt m c (t.val + 1) ∗ ringAt c (V m c main_v0) (t.val + 1) ∗ (∃ W', owes (c : Thread nD τ) 0 W')) -∗ K ⟨⟩))
      ⊢ wp frame (wpE (defs₀ (F := F)) Variants.none c none) Set.univ (bodyAt0 t) K := by
  have hN : t.val < 16 := lt_of_lt_of_eq t.isLt (show cfg0.N = 16 from N_0)
  unfold bodyAt0 simnAt ringAt logitsAt maskAt
  rw [if_neg (show ¬t.val + 1 = 0 by omega), if_neg (show ¬t.val + 1 = 0 by omega)]
  by_cases h0 : t.val = 0
  · have ht : t = t0 := Fin.ext h0
    rw [if_pos h0, if_pos h0, Ring.At₀_eq4' _ _ _ t.val h0 (by decide : 4 ≤ 16), Ring.At4_one' _ _ _ _ t.val h0 (by decide : 4 ≤ 16)]
    rw [show simn m c = k0_pay1 (iblk m c 0 t) by rw [ht]; rfl]
    iintro ⟨⟨H0, H1, H2, H3⟩, H4, H5, HS, ⟨-, Hr0, Hr1, Hr2, Hr3⟩, HW, Hk⟩
    iapply (run_first c t _ _ _ _ _ _ _ _ _ _ _ _ _ _ ((atFirst_iff t).mpr h0) ((hasNext_iff t).mpr (by omega)) (iblk m c 0 t) (iblk m c 1 t) (iblk m c 2 t) (iblk m c 3 t) (V m c main_v0) W _)
    isplitl [H0]; · iexact H0
    isplitl [H1]; · iexact H1
    isplitl [H2]; · iexact H2
    isplitl [H3]; · iexact H3
    isplitl [H4]; · iexact H4
    isplitl [H5]; · iexact H5
    isplitl [HS]; · iexact HS
    isplitl [Hr0]; · iexact Hr0
    isplitl [Hr1]; · iexact Hr1
    isplitl [Hr2]; · iexact Hr2
    isplitl [Hr3]; · iexact Hr3
    isplitl [HW]; · iexact HW
    iintro ⟨H0, H1, H2, H3, H4, H5, HS, Hr0, Hr1, Hr2, Hr3, HW⟩
    iapply Hk
    isplitl [H0 H1 H2 H3]
    · isplitl [H0]; · iexact H0
      isplitl [H1]; · iexact H1
      isplitl [H2]; · iexact H2
      iexact H3
    isplitl [H4]; · iexact H4
    isplitl [H5]; · iexact H5
    isplitl [HS]; · iexact HS
    isplitl [Hr0 Hr1 Hr2 Hr3]
    · iapply (Ring.with_homes (Idealize.SL.BI.Entails.refl _))
      isplitl [Hr0]; · iexact Hr0
      isplitl [Hr1]; · iexact Hr1
      isplitl [Hr2]; · iexact Hr2
      iexact Hr3
    iexact HW
  · rw [if_neg h0, if_neg h0]
    by_cases h1 : t.val < 13
    · rw [Ring.At4_here _ _ _ _ t.val (by omega), Ring.At4_next _ _ _ _ t.val (by omega), Ring.slotAt4_next0 _ _ _ t.val (by omega),
        Ring.slotAt4_next1 _ _ _ t.val (by omega), Ring.slotAt4_next2 _ _ _ t.val (by omega)]
      iintro ⟨⟨H0, H1, H2, H3⟩, H4, H5, HS, ⟨-, Hr0, Hr1, Hr2, Hr3⟩, HW, Hk⟩
      iapply (run_middle c t _ _ _ _ _ _ _ _ _ _ _ _ _ _ (fun h => h0 ((atFirst_iff t).mp h)) ((hasNext_iff t).mpr h1) (iblk m c 0 t) (iblk m c 1 t) (iblk m c 2 t) (iblk m c 3 t) (V m c main_v0) (simn m c) W _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [Hr0]; · iexact Hr0
      isplitl [Hr1]; · iexact Hr1
      isplitl [Hr2]; · iexact Hr2
      isplitl [Hr3]; · iexact Hr3
      isplitl [HW]; · iexact HW
      iintro ⟨H0, H1, H2, H3, H4, H5, HS, Hr0, Hr1, Hr2, Hr3, HW⟩
      iapply Hk
      isplitl [H0 H1 H2 H3]
      · isplitl [H0]; · iexact H0
        isplitl [H1]; · iexact H1
        isplitl [H2]; · iexact H2
        iexact H3
      isplitl [H4]; · iexact H4
      isplitl [H5]; · iexact H5
      isplitl [HS]; · iexact HS
      isplitl [Hr0 Hr1 Hr2 Hr3]
      · iapply (Ring.with_homes (Idealize.SL.BI.Entails.refl _))
        isplitl [Hr0]; · iexact Hr0
        isplitl [Hr1]; · iexact Hr1
        isplitl [Hr2]; · iexact Hr2
        iexact Hr3
      iexact HW
    · rw [Ring.At4_here_tail _ _ _ _ t.val (by omega), Ring.At4_next_tail _ _ _ _ t.val (by omega) (by omega), Ring.slotAt4_tail_role _ _ _ t.val,
        Ring.slotAt4_tail_role1 _ _ _ t.val]
      iintro ⟨⟨H0, H1, H2, H3⟩, H4, H5, HS, ⟨-, Hr0, Hr1, Hr2, Hr3⟩, HW, Hk⟩
      iapply (run_last c t _ _ _ _ _ _ _ _ _ _ _ _ _ _ (fun h => h0 ((atFirst_iff t).mp h)) (fun h => h1 ((hasNext_iff t).mp h)) (iblk m c 0 t) (iblk m c 1 t) (iblk m c 2 t) (iblk m c 3 t) (V m c main_v0) (simn m c) W _)
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [Hr0]; · iexact Hr0
      isplitl [Hr1]; · iexact Hr1
      isplitl [Hr2]; · iexact Hr2
      isplitl [Hr3]; · iexact Hr3
      isplitl [HW]; · iexact HW
      iintro ⟨H0, H1, H2, H3, H4, H5, HS, Hr0, Hr1, Hr2, Hr3, HW⟩
      iapply Hk
      isplitl [H0 H1 H2 H3]
      · isplitl [H0]; · iexact H0
        isplitl [H1]; · iexact H1
        isplitl [H2]; · iexact H2
        iexact H3
      isplitl [H4]; · iexact H4
      isplitl [H5]; · iexact H5
      isplitl [HS]; · iexact HS
      isplitl [Hr0 Hr1 Hr2 Hr3]
      · iapply (Ring.with_homes (Idealize.SL.BI.Entails.refl _))
        isplitl [Hr0]; · iexact Hr0
        isplitl [Hr1]; · iexact Hr1
        isplitl [Hr2]; · iexact Hr2
        iexact Hr3
      iexact HW

/-! ## The proof data -/

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => maskAt m c t
    | ⟨5, _⟩ => logitsAt m c t
  Φ t := PhiR m c t.val
  q _ := fullShare
  owed _ := 0

theorem A_eq (c : Dev nD) (w : Fin cfg0.W) : (dats m 0 c).A w = V m c (Pipeline.arrRef spec0 w) := by dsimp only [dats]
theorem PhiR_castSucc (c : Dev nD) (t : Fin cfg0.N) : (dats m 0 c).Φ t.castSucc = PhiR m c t.val := by
  dsimp only [dats]; simp only [Fin.val_castSucc]
theorem PhiR_succ (c : Dev nD) (t : Fin cfg0.N) : (dats m 0 c).Φ t.succ = PhiR m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = maskAt m c t := by dsimp only [dats]
theorem after_5 (c : Dev nD) (t : Fin cfg0.N) : (dats m 0 c).after 5 t = logitsAt m c t := by dsimp only [dats]

/-- Each input's buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mSim t) fullShare ((dats m 0 c).before 0 t d))
    ∗ (∃ d, owns (c : Thread nD τ) (mGates t) fullShare ((dats m 0 c).before 1 t d))
    ∗ (∃ d, owns (c : Thread nD τ) (mTemp t) fullShare ((dats m 0 c).before 2 t d))
    ∗ (∃ d, owns (c : Thread nD τ) (mEm t) fullShare ((dats m 0 c).before 3 t d))
    ∗ (∃ d, owns (c : Thread nD τ) (mMask t) fullShare ((dats m 0 c).before 4 t d))
    ∗ (∃ d, owns (c : Thread nD τ) (mLogits t) fullShare ((dats m 0 c).before 5 t d)))
/-- and what it returns. -/
def bodyPost (c : Dev nD) (t : Fin cfg0.N) : sProp 𝕄 :=
  iprop((dats m 0 c).Φ t.succ ∗ (dats m 0 c).owesAt () t.succ
    ∗ owns (c : Thread nD τ) (mSim t) fullShare ((dats m 0 c).after 0 t)
    ∗ owns (c : Thread nD τ) (mGates t) fullShare ((dats m 0 c).after 1 t)
    ∗ owns (c : Thread nD τ) (mTemp t) fullShare ((dats m 0 c).after 2 t)
    ∗ owns (c : Thread nD τ) (mEm t) fullShare ((dats m 0 c).after 3 t)
    ∗ owns (c : Thread nD τ) (mMask t) fullShare ((dats m 0 c).after 4 t)
    ∗ owns (c : Thread nD τ) (mLogits t) fullShare ((dats m 0 c).after 5 t))

set_option maxHeartbeats 1200000 in
/-- The body's triple at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3]
  rw [after_0, after_1, after_2, after_3, after_4, after_5, PhiR_castSucc m c t, PhiR_succ m c t]
  unfold Dat.owesAt Pipeline.owesWithin
  rw [show (dats m 0 c).owed t.castSucc = 0 from rfl, show (dats m 0 c).owed t.succ = 0 from rfl]
  unfold PhiR
  iintro ⟨⟨Hg, HS, HR⟩, ⟨%W, -, HW⟩, ⟨%d0, H0⟩, ⟨%d1, H1⟩, ⟨%d2, H2⟩, ⟨%d3, H3⟩, ⟨%d4, H4⟩, ⟨%d5, H5⟩⟩
  iapply (point_run m c t W _)
  isplitl [H0 H1 H2 H3]
  · isplitl [H0]; · iexact H0
    isplitl [H1]; · iexact H1
    isplitl [H2]; · iexact H2
    iexact H3
  isplitl [H4]; · iexists _; iexact H4
  isplitl [H5]; · iexists _; iexact H5
  isplitl [HS]; · iexact HS
  isplitl [HR]; · iexact HR
  isplitl [HW]; · iexact HW
  iintro ⟨⟨H0, H1, H2, H3⟩, H4, H5, HS, HR, ⟨%W', HW'⟩⟩
  isplitl [Hg HS HR]
  · isplitl [Hg]; · iexact Hg
    isplitl [HS]; · iexact HS
    iexact HR
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

theorem defs_row (t : Fin cfg0.N) : defs₀ (F := F) .tc cfg0.body (cfg0.bodyArgs t (cfg0.slots t)) = bodyAt0 t := by
  unfold defs₀; rw [Defs.onTc_tc]
/-- The library's obligation, at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-- What the launch hands over is the invariant before the first point, -/
theorem region_in (c : Dev nD) : Pipeline.ΦD osem spec0 hbmRefs (V m) c ⊢ (dats m 0 c).Φ 0 := by
  rw [handed_eq, show (dats m 0 c).Φ 0 = PhiR m c 0 from rfl]
  unfold PhiR simnAt
  rw [if_pos rfl]
  iintro ⟨⟨HR, HS⟩, Hg, Hq, Hh⟩
  isplitl [Hg]; · iexact Hg
  isplitl [HS]; · iexact HS
  iapply (ring_in (F := F) m c)
  isplitl [HR]; · iexact HR
  isplitl [Hq]; · iexact Hq
  iexact Hh
/-- and the invariant after the last point gives it back. -/
theorem region_out (c : Dev nD) : (dats m 0 c).Φ (Fin.last cfg0.N) ⊢ Pipeline.ΦD osem spec0 hbmRefs (V m) c := by
  rw [handed_eq, show (dats m 0 c).Φ (Fin.last cfg0.N) = PhiR m c grid0.N from rfl]
  unfold PhiR simnAt
  rw [show grid0.N = 16 by rw [N_0], if_neg (by decide)]
  iintro ⟨Hg, HS, HR⟩
  ihave HX := (ring_out (F := F) m c) $$ HR
  icases HX with ⟨HR, Hq, Hh⟩
  isplitl [HR HS]
  · isplitl [HR]; · iexact HR
    iexists _; iexact HS
  isplitl [Hg]; · iexact Hg
  isplitl [Hq]; · iexact Hq
  iexact Hh

/-! ## The run -/

set_option maxHeartbeats 800000 in
/-- The program up to its region. -/
theorem prefix_run : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- Every execution ends, with each window's array as the points left it and every counter at zero. -/
theorem run_all : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 osem defs₀ Variants.none ownSemFacts hbmRefs hbmRefs_sub m ρ main
    (hbody := fun c => (body_obligation m c).loose) (hshare := fun c => (dats m 0 c).share_full fun _ => rfl)
    (howed := fun _ _ => rfl) (V := V m) (hmain := prefix_run m) (hA := A_eq m)
    (hin := region_in m) (hout := region_out m)

/-- The five arguments are unchanged. -/
abbrev ArgsKept (μ : (ℓ : Loc nD τ sig) → Buf (Elt F) ℓ) (c : Dev nD) : Prop :=
  μ ((c.tc : Thread nD τ).loc main_arg0) = m ((c.tc : Thread nD τ).loc main_arg0)
  ∧ μ ((c.tc : Thread nD τ).loc main_arg1) = m ((c.tc : Thread nD τ).loc main_arg1)
  ∧ μ ((c.tc : Thread nD τ).loc main_arg2) = m ((c.tc : Thread nD τ).loc main_arg2)
  ∧ μ ((c.tc : Thread nD τ).loc main_arg3) = m ((c.tc : Thread nD τ).loc main_arg3)
  ∧ μ ((c.tc : Thread nD τ).loc main_arg4) = m ((c.tc : Thread nD τ).loc main_arg4)
theorem args_kept (r : PUnit × MemSt nD τ sig (Elt F)) (h : Pipeline.FramePost cfgs (dats m) 0 (V m) r) (c : Dev nD) : ArgsKept m r.2.mem c :=
  ⟨((h c).2 main_arg0 (Pipeline.mem_restRefs_of main_arg0 (by decide) (by decide))).trans (V_main_arg0 m c),
    ((h c).1 0).trans (((dats m 0 c).arrAt_in 0 rfl _).trans ((A_eq m c 0).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The kernel's frame: it ends, leaves its arguments as they were and every counter at zero. -/
theorem kernel_frame : θ_run defs (onTc (τ := τ) (main (F := F))) ⟨m, fun _ => 0, ρ⟩
    (fun r => (∀ c : Dev nD, ArgsKept m r.2.mem c) ∧ r.2.sem = fun _ => 0) :=
  (θ_run defs _ _).mono (fun r h => ⟨args_kept m r h.1, h.2⟩) (run_all m ρ)

/-- The run with the two result arrays named. -/
theorem run_arrays : θ_run defs (onTc (τ := τ) (main (F := F))) ⟨m, fun _ => 0, ρ⟩ (fun r => ∀ c : Dev nD,
    r.2.mem ((c.tc : Thread nD τ).loc main_v4_0) = (dats m 0 c).arrAt 4 cfg0.N
    ∧ r.2.mem ((c.tc : Thread nD τ).loc main_v4_1) = (dats m 0 c).arrAt 5 cfg0.N ∧ ArgsKept m r.2.mem c) :=
  (θ_run defs _ _).mono (fun r h c => ⟨(h.1 c).1 4, (h.1 c).1 5, args_kept m r h.1 c⟩) (run_all m ρ)

end Cert.Gating

end
-- ==== Proof.Rank.lean ====
module

public import Idealize.ShloMosaic.PureOps.ShapeOps
public import Idealize.ShloMosaic.Lib.SortFacts
public import Mathlib.Data.EReal.Basic
public import Mathlib.Data.Finset.Fold
public import Mathlib.Data.Finset.Lattice.Fold

/-! The first two positions of a row of extended reals, greatest first and equal values in the order of their positions: what
    a stable descending sort puts in front, and what two rounds of "the maximum, then the least position that holds it" find. -/

@[expose] public section

noncomputable section

namespace Cert.Gating

open Idealize.ShloMosaic

variable {n : ℕ}

/-- Position `b` comes before position `c` of the row `x`: a greater value, or the same value further left. -/
def Ahead (x : Fin n → EReal) (b c : Fin n) : Prop := x c < x b ∨ (x b = x c ∧ b < c)

/-- `i` is the row's first position and `j` its second. -/
structure TopTwo (x : Fin n → EReal) (i j : Fin n) : Prop where
  ne : i ≠ j
  first : ∀ c, c ≠ i → Ahead x i c
  second : ∀ c, c ≠ i → c ≠ j → Ahead x j c

/-- A value that is greater further right comes first; otherwise the position on the left does. -/
theorem ahead_of_not_lt {x : Fin n → EReal} {b c : Fin n} (h : ¬ x b < x c) (hbc : b < c) : Ahead x b c := by
  rcases lt_or_eq_of_le (not_lt.mp h) with e | e
  · exact Or.inl e
  · exact Or.inr ⟨e.symm, hbc⟩

/-- What comes before something no smaller than another value comes before that other value's position. -/
theorem ahead_trans {x : Fin n → EReal} {a b c : Fin n} (h : Ahead x a b) (h' : Ahead x b c) : Ahead x a c := by
  rcases h with h | ⟨h, hl⟩ <;> rcases h' with h' | ⟨h', hl'⟩
  · exact Or.inl (h'.trans h)
  · exact Or.inl (h' ▸ h)
  · exact Or.inl (h ▸ h')
  · exact Or.inr ⟨h.trans h', hl.trans hl'⟩

/-- Inserting a position to the left of every listed one keeps the list in order. -/
theorem pairwise_insert (x : Fin n → EReal) (before : Fin n → Fin n → Bool) (hb : ∀ a b, before a b = true ↔ x b < x a)
    (a : Fin n) (l : List (Fin n)) (hl : l.Pairwise (Ahead x)) (ha : ∀ b ∈ l, a < b) :
    (insertBefore before a l).Pairwise (Ahead x) := by
  induction l with
  | nil => exact List.pairwise_singleton _ _
  | cons b l ih =>
    rw [List.pairwise_cons] at hl
    unfold insertBefore
    split
    · rename_i hba
      refine List.pairwise_cons.mpr ⟨fun c hc => ?_, ih hl.2 fun c hc => ha c (List.mem_cons_of_mem b hc)⟩
      rcases List.mem_cons.mp ((perm_insertBefore before a l).mem_iff.mp hc) with rfl | hc'
      · exact Or.inl ((hb b c).mp hba)
      · exact hl.1 c hc'
    · rename_i hba
      have hab : Ahead x a b := ahead_of_not_lt (fun h => hba ((hb b a).mpr h)) (ha b List.mem_cons_self)
      refine List.pairwise_cons.mpr ⟨fun c hc => ?_, List.pairwise_cons.mpr hl⟩
      rcases List.mem_cons.mp hc with rfl | hc'
      · exact hab
      · exact ahead_trans hab (hl.1 c hc')

/-- The stable descending sort of positions listed left to right puts them in order. -/
theorem pairwise_sorted (x : Fin n → EReal) (before : Fin n → Fin n → Bool) (hb : ∀ a b, before a b = true ↔ x b < x a)
    (l : List (Fin n)) (hl : l.Pairwise (· < ·)) : (stableSort before l).Pairwise (Ahead x) := by
  induction l with
  | nil => exact List.Pairwise.nil
  | cons a l ih =>
    rw [List.pairwise_cons] at hl
    unfold stableSort
    exact pairwise_insert x before hb a _ (ih hl.2) fun b hb' => hl.1 b ((perm_stableSort before l).mem_iff.mp hb')

/-- Earlier places of the sort hold positions that come before those of later places. -/
theorem ahead_sortedFrom (x : Fin n → EReal) (before : Fin n → Fin n → Bool) (hb : ∀ a b, before a b = true ↔ x b < x a)
    (p q : Fin n) (hpq : p < q) : Ahead x (sortedFrom before p) (sortedFrom before q) := by
  have h := List.pairwise_iff_get.mp (pairwise_sorted x before hb (List.finRange n) (List.pairwise_lt_finRange n))
  exact h (p.cast (length_sortPositions n before).symm) (q.cast (length_sortPositions n before).symm) hpq

/-- The sort's places 0 and 1 hold the first and the second position. -/
theorem topTwo_sortedFrom (x : Fin n → EReal) (before : Fin n → Fin n → Bool) (hb : ∀ a b, before a b = true ↔ x b < x a)
    (p q : Fin n) (hp : p.val = 0) (hq : q.val = 1) : TopTwo x (sortedFrom before p) (sortedFrom before q) where
  ne h := by
    have := sortedFrom_injective before h
    rw [this] at hp; omega
  first c hc := by
    obtain ⟨r, rfl⟩ := sortedFrom_surjective before c
    refine ahead_sortedFrom x before hb p r (Fin.lt_def.mpr ?_)
    have : r.val ≠ p.val := fun e => hc (congrArg _ (Fin.ext e))
    omega
  second c hc hc' := by
    obtain ⟨r, rfl⟩ := sortedFrom_surjective before c
    refine ahead_sortedFrom x before hb q r (Fin.lt_def.mpr ?_)
    have h1 : r.val ≠ p.val := fun e => hc (congrArg _ (Fin.ext e))
    have h2 : r.val ≠ q.val := fun e => hc' (congrArg _ (Fin.ext e))
    omega

/-- The greatest value of a row, as a fold of `max` from −∞. -/
def rowMax (x : Fin n → EReal) : EReal := Finset.univ.fold max ⊥ x

/-- The least position (as a number) at which the row `x` holds `v`, and `far` where there is none below it. -/
def leastAt (x : Fin n → EReal) (v far : EReal) : EReal :=
  Finset.univ.fold min ⊤ fun k : Fin n => if x k = v then ((k.val : ℝ) : EReal) else far

/-- A position no other value exceeds holds the row's maximum. -/
theorem rowMax_eq {x : Fin n → EReal} {i : Fin n} (h : ∀ c, x c ≤ x i) : rowMax x = x i :=
  le_antisymm ((Finset.fold_max_le (x i)).mpr ⟨bot_le, fun c _ => h c⟩) ((Finset.le_fold_max (x i)).mpr (Or.inr ⟨i, Finset.mem_univ i, le_rfl⟩))

/-- The first position is the least one holding the maximum. -/
theorem leastAt_rowMax {x : Fin n → EReal} {i : Fin n} (h : ∀ c, c ≠ i → Ahead x i c) (far : EReal)
    (hfar : ∀ k : Fin n, ((k.val : ℝ) : EReal) ≤ far) : leastAt x (rowMax x) far = ((i.val : ℝ) : EReal) := by
  have hle : ∀ c, x c ≤ x i := fun c => by
    by_cases e : c = i
    · rw [e]
    · rcases h c e with h | h
      · exact h.le
      · exact h.1.ge
  rw [rowMax_eq hle]
  unfold leastAt
  refine le_antisymm ((Finset.fold_min_le _).mpr (Or.inr ⟨i, Finset.mem_univ i, by rw [if_pos rfl]⟩))
    ((Finset.le_fold_min _).mpr ⟨le_top, fun c _ => ?_⟩)
  split
  · rename_i hc
    by_cases e : c = i
    · rw [e]
    · rcases h c e with h | h
      · exact absurd hc h.ne
      · exact EReal.coe_le_coe_iff.mpr (Nat.cast_le.mpr (Fin.le_def.mp h.2.le))
  · exact hfar i

/-- The row with the position numbered `v` overwritten by `low`. -/
def without (x : Fin n → EReal) (v low : EReal) : Fin n → EReal :=
  fun k => if ((k.val : ℝ) : EReal) = v then low else x k

/-- Positions are told apart by their numbers. -/
theorem number_eq_iff (a b : Fin n) : ((a.val : ℝ) : EReal) = ((b.val : ℝ) : EReal) ↔ a = b := by
  rw [EReal.coe_eq_coe_iff, Nat.cast_inj, Fin.val_inj]

/-- With the first position overwritten by something below every value of the row, the second comes first. -/
theorem second_without {x : Fin n → EReal} {i j : Fin n} (h : TopTwo x i j) (low : EReal) (hlow : ∀ k, low < x k) (c : Fin n)
    (hc : c ≠ j) : Ahead (without x ((i.val : ℝ) : EReal) low) j c := by
  have hj : without x ((i.val : ℝ) : EReal) low j = x j := if_neg fun e => h.ne ((number_eq_iff j i).mp e).symm
  unfold Ahead
  rw [hj]
  by_cases e : c = i
  · subst e
    exact Or.inl (by rw [show without x ((c.val : ℝ) : EReal) low c = low from if_pos rfl]; exact hlow j)
  · rw [show without x ((i.val : ℝ) : EReal) low c = x c from if_neg fun e' => e ((number_eq_iff c i).mp e')]
    exact h.second c e hc

/-- The two rounds of the search find the first and the second position. -/
theorem rounds {x : Fin n → EReal} {i j : Fin n} (h : TopTwo x i j) (low far : EReal) (hlow : ∀ k, low < x k)
    (hfar : ∀ k : Fin n, ((k.val : ℝ) : EReal) ≤ far) :
    leastAt x (rowMax x) far = ((i.val : ℝ) : EReal)
    ∧ leastAt (without x (leastAt x (rowMax x) far) low) (rowMax (without x (leastAt x (rowMax x) far) low)) far = ((j.val : ℝ) : EReal) := by
  have h1 := leastAt_rowMax h.first far hfar
  refine ⟨h1, ?_⟩
  rw [h1]
  exact leastAt_rowMax (second_without h low hlow) far hfar

end Cert.Gating

end
-- ==== Proof.Norms.lean ====
module

public import Idealize.ShloMosaic.PureOps.Ideal.Laws
public import Mathlib.Algebra.Order.BigOperators.Ring.Finset

/-! A vector divided by its Euclidean length (no shorter than a small positive constant), and the logit of two such vectors: their
    inner product times a weight. Over the extended reals the normalised vector is always real with squares summing to at most one
    (an infinite entry makes the length infinite, and everything over it zero), so the logit is bounded by its weight. -/

@[expose] public section

noncomputable section

namespace Cert.Gating

open Idealize.ShloMosaic

variable {n : ℕ}

/-- The least length a vector is divided by: the value of the word both programs print for 1e-12. -/
def minLength : EReal := Ideal.ofBits .f32 0x2B8CBCCC#32

/-- Entry `k` of the vector over its length. -/
def normed (x : Fin n → EReal) (k : Fin n) : EReal :=
  Ideal.div (x k) (max (Ideal.sqrt (∑ k, x k * x k)) minLength)

/-- The logit: the inner product of the two normalised vectors, weighted. -/
def logit (x s : Fin n → EReal) (w : EReal) : EReal := (∑ k, normed x k * normed s k) * w

/-- The least length is a positive real. -/
theorem minLength_pos : ∃ e : ℝ, 0 < e ∧ minLength = (e : EReal) := by
  refine ⟨_, ?_, by unfold minLength; simp [Ideal.ofBits, Ideal.ieee]; rfl⟩
  positivity

/-- A square is not negative. -/
theorem square_nonneg (a : EReal) : 0 ≤ a * a := by
  rcases le_total 0 a with h | h
  · exact mul_nonneg h h
  · exact EReal.mul_nonneg_iff.mpr (Or.inr ⟨h, h⟩)

/-- The squares of a row with an infinite entry sum to infinity. -/
theorem sum_squares_top (x : Fin n → EReal) (k : Fin n) (h : x k = ⊤ ∨ x k = ⊥) : ∑ k, x k * x k = ⊤ := by
  rw [← Finset.add_sum_erase _ _ (Finset.mem_univ k),
    show x k * x k = ⊤ by rcases h with h | h <;> rw [h] <;> simp]
  refine EReal.top_add_of_ne_bot (ne_of_gt (lt_of_lt_of_le EReal.bot_lt_zero (Finset.sum_nonneg fun c _ => square_nonneg _)))

/-- The sum of real numbers, read among the extended reals. -/
theorem coe_sum (f : Fin n → ℝ) : ∑ k, (f k : EReal) = ((∑ k, f k : ℝ) : EReal) := by
  induction (Finset.univ : Finset (Fin n)) using Finset.induction_on with
  | empty => simp
  | insert a s ha ih => rw [Finset.sum_insert ha, Finset.sum_insert ha, ih, EReal.coe_add]

/-- The greater of two reals, read among the extended reals. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A normalised vector is real, and its squares sum to at most one. -/
theorem normed_real (x : Fin n → EReal) : ∃ y : Fin n → ℝ, (∀ k, normed x k = (y k : EReal)) ∧ ∑ k, y k ^ 2 ≤ 1 := by
  obtain ⟨e, he, hmin⟩ := minLength_pos
  by_cases hx : ∃ k, x k = ⊤ ∨ x k = ⊥
  · obtain ⟨k, hk⟩ := hx
    refine ⟨fun _ => 0, fun c => ?_, by simp⟩
    unfold normed
    rw [sum_squares_top x k hk, Ideal.sqrt_top, max_eq_left le_top]
    unfold Ideal.div
    rw [if_neg EReal.top_ne_zero, EReal.inv_top, mul_zero, EReal.coe_zero]
  · have hr : ∀ k, ∃ r : ℝ, x k = (r : EReal) := fun k =>
      ⟨(x k).toReal, (EReal.coe_toReal (fun h => hx ⟨k, Or.inl h⟩) (fun h => hx ⟨k, Or.inr h⟩)).symm⟩
    choose r hr using hr
    have hS : 0 ≤ ∑ k, r k * r k := Finset.sum_nonneg fun k _ => mul_self_nonneg _
    have hd : 0 < max (Real.sqrt (∑ k, r k * r k)) e := lt_of_lt_of_le he (le_max_right _ _)
    have hlen : max (Ideal.sqrt (∑ k, x k * x k)) minLength = ((max (Real.sqrt (∑ k, r k * r k)) e : ℝ) : EReal) := by
      rw [show ∑ k, x k * x k = ((∑ k, r k * r k : ℝ) : EReal) by
        rw [← coe_sum]; exact Finset.sum_congr rfl fun k _ => by rw [hr k, EReal.coe_mul],
        Ideal.sqrt_coe, if_neg (not_lt.mpr hS), hmin, coe_max]
    refine ⟨fun k => r k * (1 / max (Real.sqrt (∑ k, r k * r k)) e), fun k => ?_, ?_⟩
    · unfold normed
      rw [hlen, Ideal.div_coe hd.ne', hr k, EReal.coe_mul]
    · have hsq : ∑ k, r k * r k ≤ max (Real.sqrt (∑ k, r k * r k)) e ^ 2 := by
        calc ∑ k, r k * r k = Real.sqrt (∑ k, r k * r k) ^ 2 := (Real.sq_sqrt hS).symm
          _ ≤ _ := pow_le_pow_left₀ (Real.sqrt_nonneg _) (le_max_left _ _) 2
      generalize max (Real.sqrt (∑ k, r k * r k)) e = d at hd hsq
      have : ∑ k, (r k * (1 / d)) ^ 2 = (∑ k, r k * r k) / d ^ 2 := by
        rw [Finset.sum_div]
        exact Finset.sum_congr rfl fun k _ => by ring
      rw [this]
      exact (div_le_one (by positivity)).mpr hsq

/-- The inner product of two normalised vectors is a real of magnitude at most one. -/
theorem inner_real (x s : Fin n → EReal) : ∃ d : ℝ, ∑ k, normed x k * normed s k = (d : EReal) ∧ |d| ≤ 1 := by
  obtain ⟨y, hy, hy1⟩ := normed_real x
  obtain ⟨z, hz, hz1⟩ := normed_real s
  refine ⟨∑ k, y k * z k, ?_, ?_⟩
  · rw [← coe_sum]
    exact Finset.sum_congr rfl fun k _ => by rw [hy, hz, EReal.coe_mul]
  · refine abs_le_of_sq_le_sq (?_ : _ ≤ (1 : ℝ) ^ 2) zero_le_one
    calc (∑ k, y k * z k) ^ 2 ≤ (∑ k, y k ^ 2) * ∑ k, z k ^ 2 := Finset.sum_mul_sq_le_sq_mul_sq _ _ _
      _ ≤ 1 * 1 := mul_le_mul hy1 hz1 (Finset.sum_nonneg fun _ _ => sq_nonneg _) zero_le_one
      _ = 1 ^ 2 := by norm_num

/-- A weight of magnitude below `B` gives a logit above `−B`. -/
theorem low_lt_logit (x s : Fin n → EReal) (w : EReal) (B : ℝ) (hw : max w (-w) < (B : EReal)) : ((-B : ℝ) : EReal) < logit x s w := by
  obtain ⟨d, hd, hd1⟩ := inner_real x s
  have h1 : w < (B : EReal) := lt_of_le_of_lt (le_max_left _ _) hw
  have h2 : -w < (B : EReal) := lt_of_le_of_lt (le_max_right _ _) hw
  induction w with
  | bot => simp at h2
  | top => simp at h1
  | coe r =>
    rw [EReal.coe_lt_coe_iff] at h1
    rw [← EReal.coe_neg, EReal.coe_lt_coe_iff] at h2
    unfold logit
    rw [hd, ← EReal.coe_mul, EReal.coe_lt_coe_iff]
    have hr : |r| < B := abs_lt.mpr ⟨by linarith, h1⟩
    have : |d * r| < B := by
      rw [abs_mul]
      exact lt_of_le_of_lt (mul_le_of_le_one_left (abs_nonneg r) hd1) hr
    exact (abs_lt.mp this).1

end Cert.Gating

end
-- ==== Proof.Spec.lean ====
module

public import proofs.«01_k».proof.Proof.Rank
public import proofs.«01_k».proof.Proof.Norms

/-! One row of the mask: the experts whose logit exceeds their gate, or, where there is none, the two experts of greatest logit. The
    values of the words the programs print, and the row as each of the two programs spells it. -/

@[expose] public section

noncomputable section

namespace Cert.Gating

open Idealize.ShloMosaic

variable {n : ℕ}

open Classical in
/-- One and zero, for a statement that holds and one that does not. -/
def bit (p : Prop) : EReal := if p then 1 else 0

open Classical in
/-- The mask of a row of logits `x` against gates `g`, whose first and second positions are `i` and `j`. -/
def maskRow (x g : Fin n → EReal) (i j e : Fin n) : EReal :=
  if ∀ k, ¬ g k < x k then bit (e = i ∨ e = j) else bit (g e < x e)

/-- A bit is not negative. -/
theorem bit_nonneg (p : Prop) : 0 ≤ bit p := by unfold bit; split <;> simp

/-- The bit of a true statement. -/
theorem bit_true {p : Prop} (h : p) : bit p = 1 := if_pos h

/-- The bit of a false statement. -/
theorem bit_false {p : Prop} (h : ¬ p) : bit p = 0 := if_neg h

/-- A bit is zero exactly when its statement fails. -/
theorem bit_eq_zero (p : Prop) : bit p = 0 ↔ ¬ p := by unfold bit; split <;> simp_all

/-- The bits of a row sum to zero exactly when none of its statements holds. -/
theorem sum_bit_eq_zero (p : Fin n → Prop) : ∑ k, bit (p k) = 0 ↔ ∀ k, ¬ p k := by
  rw [Finset.sum_eq_zero_iff_of_nonneg fun k _ => bit_nonneg _]
  simp [bit_eq_zero]

/-- The stand-in the second round writes over the first position, as a real: minus the greatest finite value. -/
def greatest : ℝ := (2 ^ 24 - 1) * 2 ^ 104

/-- The word of the greatest finite value. -/
theorem greatest_word : Ideal.ofBits .f32 0x7F7FFFFF#32 = (greatest : EReal) := by
  simp [Ideal.ofBits, Ideal.ieee, greatest, -EReal.coe_mul, -EReal.coe_sub, -EReal.coe_neg]; norm_num

/-- The word of the stand-in. -/
theorem stand_in_word : Ideal.ofBits .f32 0xFF7FFFFF#32 = ((-greatest : ℝ) : EReal) := by
  simp [Ideal.ofBits, Ideal.ieee, greatest, -EReal.coe_mul, -EReal.coe_sub, -EReal.coe_neg]; norm_num

/-- The word of minus infinity. -/
theorem bot_word : Ideal.ofBits .f32 0xFF800000#32 = ⊥ := by simp [Ideal.ofBits, Ideal.ieee]

/-- The word of infinity. -/
theorem top_word : Ideal.ofBits .f32 0x7F800000#32 = ⊤ := by simp [Ideal.ofBits, Ideal.ieee]

/-- The word of one. -/
theorem one_word : Ideal.ofBits .f32 0x3F800000#32 = 1 := by
  simp [Ideal.ofBits, Ideal.ieee, -EReal.coe_mul]; norm_num

/-- The word of sixty-four. -/
theorem count_word : Ideal.ofBits .f32 0x42800000#32 = ((64 : ℝ) : EReal) := by
  simp [Ideal.ofBits, Ideal.ieee, -EReal.coe_mul]; norm_num

/-- Every position of a row of 64 is numbered below sixty-four. -/
theorem number_le_count (k : Fin 64) : ((k.val : ℝ) : EReal) ≤ Ideal.ofBits .f32 0x42800000#32 := by
  rw [count_word, EReal.coe_le_coe_iff]
  exact_mod_cast k.isLt.le

/-- A difference clipped below at zero is positive exactly when the subtrahend is the smaller. -/
theorem zero_lt_clip (a b : EReal) : 0 < max (a - b) 0 ↔ b < a := by
  rw [lt_max_iff]
  simp [EReal.sub_pos]

/-- The mask as the kernel spells it: the row's bits, and the two rounds' positions where they sum to zero. -/
theorem maskRow_of_rounds {x g : Fin n → EReal} {i j : Fin n} (h : TopTwo x i j) (low far : EReal) (hlow : ∀ k, low < x k)
    (hfar : ∀ k : Fin n, ((k.val : ℝ) : EReal) ≤ far) (e : Fin n) [Decidable (∑ k, bit (g k < x k) = 0)] :
    (if ∑ k, bit (g k < x k) = 0 then
        bit (((e.val : ℝ) : EReal) = leastAt x (rowMax x) far
          ∨ ((e.val : ℝ) : EReal) = leastAt (without x (leastAt x (rowMax x) far) low) (rowMax (without x (leastAt x (rowMax x) far) low)) far)
      else bit (g e < x e)) = maskRow x g i j e := by
  obtain ⟨h1, h2⟩ := rounds h low far hlow hfar
  rw [h2, h1, number_eq_iff, number_eq_iff]
  unfold maskRow
  simp only [sum_bit_eq_zero]

/-- The mask as the reference spells it: one at the two positions where the row's bits sum to zero, the bits elsewhere. -/
theorem maskRow_of_where (x g : Fin n → EReal) (i j e : Fin n) [Decidable (∑ k, bit (g k < x k) = 0 ∧ 0 < bit (e = i) + bit (e = j))] :
    (if ∑ k, bit (g k < x k) = 0 ∧ 0 < bit (e = i) + bit (e = j) then 1 else bit (g e < x e)) = maskRow x g i j e := by
  have hpos : 0 < bit (e = i) + bit (e = j) ↔ e = i ∨ e = j := by
    rw [(add_nonneg (bit_nonneg _) (bit_nonneg _)).lt_iff_ne', Ne, add_eq_zero_iff_of_nonneg (bit_nonneg _) (bit_nonneg _), bit_eq_zero,
      bit_eq_zero, not_and_or, not_not, not_not]
  simp only [hpos, sum_bit_eq_zero]
  unfold maskRow
  by_cases h : ∀ k, ¬ g k < x k
  · rw [if_pos h]
    by_cases hf : e = i ∨ e = j
    · rw [if_pos ⟨h, hf⟩, bit_true hf]
    · rw [if_neg fun h' => hf h'.2, bit_false hf, bit_false (h e)]
  · rw [if_neg h, if_neg fun h' => h h'.1]

end Cert.Gating

end
-- ==== Proof.Search.lean ====
module

public import proofs.«01_k».proof.Proof.Spec
public import Idealize.ShloMosaic.Lib.ValueIdx
public import Idealize.ShloMosaic.Lib.Pipeline.Value
public import Idealize.ShloMosaic.Lib.WordCmp

/-! The positions of a row's two greatest entries, as the reference's top-2 returns them over the ideal values. -/

@[expose] public section

noncomputable section

namespace Cert.Gating

open Idealize.ShloMosaic Idealize.ShloMosaic.ValueIdx

variable {a n : ℕ}

/-- The position that the stable descending sort of row `r` puts at place `p`. -/
def placed (x : FVec Ideal ⟨2, ![a, n]⟩ .f32) (r : Fin a) (p : Fin n) : Fin n :=
  sortedFrom (fun k k' => FloatOps.cmpfTotal (F := Ideal) .gt (x (ix2 r k)) (x (ix2 r k')) == 1#1) p

/-- Places 0 and 1 hold the row's first and second positions. -/
theorem topTwo_placed (x : FVec Ideal ⟨2, ![a, n]⟩ .f32) (r : Fin a) (p q : Fin n) (hp : p.val = 0) (hq : q.val = 1) :
    TopTwo (fun k => x (ix2 r k)) (placed x r p) (placed x r q) := by
  refine topTwo_sortedFrom (fun k => x (ix2 r k)) _ (fun b c => ?_) p q hp hq
  rw [beq_iff_eq]
  exact WordCmp.ofBool_decide_eq_one_iff _

/-- The top-2's indices are the words of those positions. -/
theorem topK_indices (x : FVec Ideal ⟨2, ![a, n]⟩ .f32) (h : Shape.Slices ⟨2, ![a, n]⟩ (fun _ => 0) ⟨2, ![a, 2]⟩) (r : Fin a) (p : Fin 2)
    (p' : Fin n) (hp : p'.val = p.val) :
    (Host.topK ⟨2, ![a, 2]⟩ 1 (FloatOps.cmpfTotal (F := Ideal) .gt) x h).2 (ix2 r p) = BitVec.ofNat 32 (placed x r p').val := by
  simp only [Host.topK]
  rw [extractStridedSlice_apply _ _ _ (ix2 r p) (ix2 r p') (fun d => match d with
    | ⟨0, _⟩ => by show r.val = 0 + r.val; omega
    | ⟨1, _⟩ => by show p'.val = 0 + p.val; omega)]
  have halong : ∀ k : Fin n, Shape.Idx.along (s := ⟨2, ![a, n]⟩) (ix2 r p') 1 k = ix2 r k := fun k =>
    funext fun d => match d with
      | ⟨0, _⟩ => rfl
      | ⟨1, _⟩ => rfl
  simp only [Host.sort2]
  rw [dif_pos (show 1 < (⟨2, ![a, n]⟩ : Shape).rank from Nat.one_lt_two)]
  exact congrArg (fun before : Fin n → Fin n → Bool => BitVec.ofNat 32 (sortedFrom before p').val)
    (funext fun k => funext fun k' => congrArg₂ (fun u v => FloatOps.cmpfTotal (F := Ideal) (φ := .f32) .gt (x u) (x v) == 1#1)
      (halong k) (halong k'))

end Cert.Gating

end
-- ==== Proof.Layout.lean ====
module

public import proofs.«01_k».proof.Proof.Spec
public import Idealize.ShloMosaic.Lib.ValueIdx
public import Idealize.ShloMosaic.Lib.ValueLayoutCasts
public import Idealize.ShloMosaic.Lib.WordCmp

/-! The kernel's vector operations read at one index over the ideal values: reductions along either axis of a matrix, a column
    broadcast along rows, and comparisons and conversions as bits. -/

@[expose] public section

noncomputable section

namespace Cert.Gating

open Idealize.ShloMosaic Idealize.ShloMosaic.ValueIdx

variable {φ : FTy} {s : Shape} {a b : ℕ}

/-- A column broadcast along rows reads the column. -/
theorem column_apply {α : Type} (v : (⟨2, ![a, 1]⟩ : Shape).Idx → α) (h : (⟨2, ![a, 1]⟩ : Shape).Broadcasts ⟨2, ![a, b]⟩) (r : Fin a)
    (e : Fin b) : broadcastTo ⟨2, ![a, b]⟩ v h (ix2 r e) = v (ix2 r (0 : Fin 1)) :=
  broadcastTo_apply v h _ _ fun d => match d with
    | ⟨0, _⟩ => by
      show r.val = if a = 1 then 0 else r.val
      split
      · have := r.isLt; omega
      · rfl
    | ⟨1, _⟩ => by
      show 0 = if (1 : ℕ) = 1 then 0 else e.val
      rw [if_pos rfl]

/-- A row's index with the reduced coordinate put back. -/
theorem lift_row (h : Shape.Reduces ⟨2, ![a, b]⟩ [1] ⟨1, ![a]⟩) (r : Fin a) (k : Fin b) : h.lift (ix1 r) k = ix2 r k :=
  funext fun d => match d with
    | ⟨0, _⟩ => rfl
    | ⟨1, _⟩ => rfl

/-- A column's index with the reduced coordinate put back. -/
theorem lift_column (h : Shape.Reduces ⟨2, ![a, b]⟩ [0] ⟨1, ![b]⟩) (k : Fin a) (e : Fin b) : h.lift (ix1 e) k = ix2 k e :=
  funext fun d => match d with
    | ⟨0, _⟩ => rfl
    | ⟨1, _⟩ => rfl

/-- A matrix summed along its rows. -/
theorem sum_row (v : FVec Ideal ⟨2, ![a, b]⟩ φ) (w : BitVec φ.bits) (h : Shape.Reduces ⟨2, ![a, b]⟩ [1] ⟨1, ![a]⟩) (hφ : FKind.Formats φ)
    (hw : w = FKind.add.neutral φ hφ) (r : Fin a) :
    multiReduction .add [1] ⟨1, ![a]⟩ v w h hφ hw (ix1 r) = ∑ k : Fin b, v (ix2 r k) := by
  rw [Ideal.multiReduction_add_single]
  exact Finset.sum_congr rfl fun k _ => congrArg v (lift_row h r k)

/-- A matrix summed along its columns. -/
theorem sum_column (v : FVec Ideal ⟨2, ![a, b]⟩ φ) (w : BitVec φ.bits) (h : Shape.Reduces ⟨2, ![a, b]⟩ [0] ⟨1, ![b]⟩) (hφ : FKind.Formats φ)
    (hw : w = FKind.add.neutral φ hφ) (e : Fin b) :
    multiReduction .add [0] ⟨1, ![b]⟩ v w h hφ hw (ix1 e) = ∑ k : Fin a, v (ix2 k e) := by
  rw [Ideal.multiReduction_add_single]
  exact Finset.sum_congr rfl fun k _ => congrArg v (lift_column h k e)

/-- A matrix's greatest value along each row. -/
theorem max_row (v : FVec Ideal ⟨2, ![a, b]⟩ .f32) (h : Shape.Reduces ⟨2, ![a, b]⟩ [1] ⟨1, ![a]⟩) (hφ : FKind.Formats .f32)
    (hw : (0xFF800000#32 : BitVec 32) = FKind.maximumf.neutral .f32 hφ) (r : Fin a) :
    multiReduction .maximumf [1] ⟨1, ![a]⟩ v 0xFF800000#32 h hφ hw (ix1 r) = rowMax fun k : Fin b => v (ix2 r k) := by
  rw [Ideal.multiReduction_maximumf_single, show FloatOps.ofBits (F := Ideal) .f32 0xFF800000#32 = (⊥ : EReal) from bot_word]
  unfold rowMax
  exact congrArg (Finset.univ.fold max ⊥) (funext fun k => congrArg v (lift_row h r k))

/-- A matrix's least value along each row. -/
theorem min_row (v : FVec Ideal ⟨2, ![a, b]⟩ .f32) (h : Shape.Reduces ⟨2, ![a, b]⟩ [1] ⟨1, ![a]⟩) (hφ : FKind.Formats .f32)
    (hw : (0x7F800000#32 : BitVec 32) = FKind.minimumf.neutral .f32 hφ) (r : Fin a) :
    multiReduction .minimumf [1] ⟨1, ![a]⟩ v 0x7F800000#32 h hφ hw (ix1 r) = Finset.univ.fold min (⊤ : EReal) fun k : Fin b => v (ix2 r k) := by
  rw [multiReduction_minimumf_eq_fold, h.fold_filter_drop_single _ _ v (ix1 r),
    show FloatOps.ofBits (F := Ideal) .f32 0x7F800000#32 = (⊤ : EReal) from top_word]
  exact congrArg (Finset.univ.fold min (⊤ : EReal)) (funext fun k => congrArg v (lift_row h r k))

/-- A bit word of a decided statement, widened and read as a number, is that statement's bit. -/
theorem word_bit (p : Prop) [Decidable p] : ((((BitVec.ofBool (decide p)).setWidth 32).toInt : ℝ) : EReal) = bit p := by
  by_cases h : p
  · rw [bit_true h, decide_eq_true h]; simp
  · rw [bit_false h, decide_eq_false h]; simp

/-- Either of two equalities, as the kernel joins their words, is the disjunction's bit. -/
theorem word_either (x y z : Ideal .f32) :
    FloatOps.sitofp (F := Ideal) .f32 ((IntOp.ori (FloatOps.cmpf .oeq x y) (FloatOps.cmpf .oeq x z)).setWidth 32)
      = bit ((x : EReal) = y ∨ (x : EReal) = z) := by
  rw [← word_bit, Bool.decide_or, ← WordCmp.ori_ofBool]
  rfl

/-- A bit word of a decided statement, read unsigned as a number, is that statement's bit. -/
theorem word_bit_unsigned (p : Prop) [Decidable p] : (((BitVec.ofBool (decide p)).toNat : ℝ) : EReal) = bit p := by
  by_cases h : p
  · rw [bit_true h, decide_eq_true h]; simp
  · rw [bit_false h, decide_eq_false h]; simp

/-- A choice by a decided statement's bit word. -/
theorem select_word {α : Type} (p : Prop) [Decidable p] (x y : α) : Scalar.select (BitVec.ofBool (decide p)) x y = if p then x else y := by
  by_cases h : p
  · rw [decide_eq_true h, if_pos h]; rfl
  · rw [decide_eq_false h, if_neg h]; rfl

/-- The number a position's word carries. -/
theorem word_number (k : ℕ) (h : k < 2 ^ 31) : (((BitVec.ofNat 32 k).toInt : ℝ) : EReal) = ((k : ℝ) : EReal) := by
  rw [WordCmp.toInt_ofNat_of_lt (w := 32) (by simpa using h), Int.cast_natCast]

end Cert.Gating

end
-- ==== Proof.Reference.lean ====
module

public import proofs.«01_k».proof.Proof.Search
public import proofs.«01_k».proof.Proof.Layout
public import proofs.«01_k».proof.Proof.Gen.ReferenceIdeal.Read

/-! What the reference computes, over the ideal values, entry by entry. -/

@[expose] public section

set_option maxRecDepth 16384

noncomputable section

namespace Cert.Gating

open Cert.ReferenceIdeal Cert.ReferenceIdeal.Gen Cert.ReferenceIdeal.Read
open Idealize.ShloMosaic Idealize.ShloMosaic.ValueIdx

variable (x0 : (⟨S2x4096x2048, .f32⟩ : BufTy).Contents (Elt Ideal)) (x1 : (⟨S2048x64, .f32⟩ : BufTy).Contents (Elt Ideal))
  (x2 : (⟨S64, .f32⟩ : BufTy).Contents (Elt Ideal)) (x3 : (⟨S_, .f32⟩ : BufTy).Contents (Elt Ideal))
  (x4 : (⟨S64, .f32⟩ : BufTy).Contents (Elt Ideal))

/-- Token `R`'s hidden vector. -/
def token (R : Fin 8192) (k : Fin 2048) : EReal := val_main_v0 (F := Ideal) x0 (ix2 R k)

/-- Expert `e`'s column of the similarity matrix. -/
def expert (e : Fin 64) (k : Fin 2048) : EReal := x1 (ix2 k e)

/-- Token `R`'s logits. -/
def logitRow (R : Fin 8192) (e : Fin 64) : EReal := logit (token x0 R) (expert x1 e) (x4 (ix1 e))

/-- The gates scaled by the temperature's logistic. -/
def gateRow (e : Fin 64) : EReal := x2 (ix1 e) * Ideal.logistic (x3 ix0)

/-- A token's vector over its length. -/
theorem ref_token (R : Fin 8192) (k : Fin 2048) : val_main_v9 (F := Ideal) x0 (ix2 R k) = normed (token x0 R) k := by
  rw [val_main_v9_apply, val_main_v8_apply, val_main_v7_apply, val_main_v5_apply, val_main_v6_apply, val_main_call0_v2_apply,
    val_main_call0_v1_apply, val_main_cst_1_apply, val_main_call0_cst_apply]
  simp only [Ideal.ofBits_def, Ideal.ofBits_zero_f32, zero_add, val_main_call0_v0_apply]
  rfl

/-- An expert's column over its length. -/
theorem ref_expert (k : Fin 2048) (e : Fin 64) : val_main_v14 (F := Ideal) x1 (ix2 k e) = normed (expert x1 e) k := by
  rw [val_main_v14_apply, val_main_v13_apply, val_main_v12_apply, val_main_v10_apply, val_main_v11_apply, val_main_call1_v2_apply,
    val_main_call1_v1_apply, val_main_cst_2_apply, val_main_call1_cst_apply]
  have hi : ∀ c : Fin 2048, idx_main_call1_v1 (idx_main_call1_v2 (idx_main_v13 (ix2 k e))) c = ix2 c e := fun c =>
    funext fun d => match d with
      | ⟨0, _⟩ => rfl
      | ⟨1, _⟩ => rfl
  simp only [Ideal.ofBits_def, Ideal.ofBits_zero_f32, zero_add, val_main_call1_v0_apply, hi]
  rfl

/-- The reference's logits. -/
theorem ref_logits (R : Fin 8192) (e : Fin 64) : val_main_v18 (F := Ideal) x0 x1 x4 (ix2 R e) = logitRow x0 x1 x4 R e := by
  rw [val_main_v18_apply, val_main_v15_apply, val_main_v17_apply, val_main_v16_apply]
  have hl : ∀ k : Fin 2048, lidx_main_v15 (ix2 R e) k = ix2 R k := fun k => funext fun d => match d with
    | ⟨0, _⟩ => rfl
    | ⟨1, _⟩ => rfl
  have hr : ∀ k : Fin 2048, ridx_main_v15 (ix2 R e) k = ix2 k e := fun k => funext fun d => match d with
    | ⟨0, _⟩ => rfl
    | ⟨1, _⟩ => rfl
  have hw : idx_main_v16 (idx_main_v17 (ix2 R e)) = ix1 e := funext fun d => match d with | ⟨0, _⟩ => rfl
  simp only [hl, hr, hw, ref_token, ref_expert]
  rfl

/-- The reference's scaled gates. -/
theorem ref_gates (R : Fin 8192) (e : Fin 64) : val_main_v22 (F := Ideal) x2 x3 (ix2 R e) = gateRow x2 x3 e := by
  rw [val_main_v22_apply, val_main_v21_apply, val_main_v20_apply, val_main_v19_apply, val_main_v4_apply, val_main_v3_apply,
    val_main_v2_apply, val_main_v1_apply, val_main_cst_0_apply, val_main_cst_apply]
  have hg : idx_main_v21 (idx_main_v22 (ix2 R e)) = ix1 e := funext fun d => match d with | ⟨0, _⟩ => rfl
  have ht : idx_main_v19 (ix1 e) = ix0 := funext fun d => d.elim0
  simp only [Ideal.ofBits_def, one_word, hg, ht]
  rfl

/-- The reference's active bits. -/
theorem ref_active (R : Fin 8192) (e : Fin 64) :
    val_main_v27 (F := Ideal) x0 x1 x2 x3 x4 (ix2 R e) = bit (gateRow x2 x3 e < logitRow x0 x1 x4 R e) := by
  classical
  rw [val_main_v27_apply, val_main_v26_apply, val_main_v25_apply, val_main_v24_apply, val_main_v23_apply, val_main_call2_v0_apply,
    val_main_call2_cst_apply, val_main_cst_3_apply, ref_logits, ref_gates]
  simp only [Ideal.ofBits_def, Ideal.ofBits_zero_f32, ← zero_lt_clip (logitRow x0 x1 x4 R e)]
  exact word_bit_unsigned _

/-- The reference's test for a row with no active expert. -/
theorem ref_inactive (R : Fin 8192) (e : Fin 64) :
    val_main_v36 (F := Ideal) x0 x1 x2 x3 x4 (ix2 R e)
      = BitVec.ofBool (decide (∑ k : Fin 64, bit (gateRow x2 x3 k < logitRow x0 x1 x4 R k) = 0)) := by
  rw [val_main_v36_apply, val_main_v33_apply, val_main_v30_apply, val_main_v29_apply, val_main_v28_apply, val_main_cst_4_apply,
    val_main_cst_5_apply]
  have hi : ∀ k : Fin 64, idx_main_v28 (idx_main_v33 (idx_main_v36 (ix2 R e))) k = ix2 R k := fun k => funext fun d => match d with
    | ⟨0, _⟩ => rfl
    | ⟨1, _⟩ => rfl
  simp only [Ideal.ofBits_def, Ideal.ofBits_zero_f32, zero_add, hi, ref_active]
  rfl

/-- The position of the token's greatest logit, and of its second greatest. -/
def pick (R : Fin 8192) (p : Fin 64) : Fin 64 := placed (a := 8192) (n := 64) (val_main_v18 (F := Ideal) x0 x1 x4) R p

/-- The picked positions are the row's first and second. -/
theorem pick_topTwo (R : Fin 8192) : TopTwo (logitRow x0 x1 x4 R) (pick x0 x1 x4 R 0) (pick x0 x1 x4 R 1) := by
  have h := topTwo_placed (a := 8192) (n := 64) (val_main_v18 (F := Ideal) x0 x1 x4) R 0 1 rfl rfl
  rwa [show (fun k : Fin 64 => val_main_v18 (F := Ideal) x0 x1 x4 (ix2 R k)) = logitRow x0 x1 x4 R from
    funext fun k => ref_logits x0 x1 x4 R k] at h

/-- The one-hot rows of the picked positions. -/
theorem ref_hot (R : Fin 8192) (e : Fin 64) (p : Fin 2) (p' : Fin 64) (hp : p'.val = p.val) :
    val_main_v31 (F := Ideal) x0 x1 x4 (ix3 R p e) = bit (e = pick x0 x1 x4 R p') := by
  have hi : val_main_indices (F := Ideal) x0 x1 x4 (ix2 R p) = BitVec.ofNat 32 (pick x0 x1 x4 R p').val :=
    topK_indices (a := 8192) (n := 64) (val_main_v18 (F := Ideal) x0 x1 x4) _ R p p' hp
  rw [val_main_v31_apply, val_main_call3_v4_apply, val_main_call3_v2_apply, val_main_call3_v0_apply, val_main_call3_v3_apply,
    val_main_call3_v1_apply]
  rw [show idx_main_call3_v0 (idx_main_call3_v2 (ix3 R p e)) = ix2 R p from funext fun d => match d with
    | ⟨0, _⟩ => rfl
    | ⟨1, _⟩ => rfl, hi, show (idx_main_call3_v3 (ix3 R p e) 2).val = e.val from rfl,
    WordCmp.cmpi_eq_ofNat (by have := (pick x0 x1 x4 R p').isLt; omega) (by have := e.isLt; omega)]
  refine (word_bit_unsigned _).trans (congrArg bit (propext ?_))
  rw [Fin.ext_iff]
  exact eq_comm

/-- The reference's test for a picked position. -/
theorem ref_fallback (R : Fin 8192) (e : Fin 64) :
    val_main_v35 (F := Ideal) x0 x1 x4 (ix2 R e)
      = BitVec.ofBool (decide (0 < bit (e = pick x0 x1 x4 R 0) + bit (e = pick x0 x1 x4 R 1))) := by
  rw [val_main_v35_apply, val_main_v34_apply, val_main_v32_apply, val_main_cst_6_apply, val_main_cst_7_apply, Fin.sum_univ_two,
    ← ref_hot x0 x1 x4 R e 0 0 rfl, ← ref_hot x0 x1 x4 R e 1 1 rfl]
  simp only [Ideal.ofBits_def, Ideal.ofBits_zero_f32, zero_add]
  rw [show idx_main_v32 (ix2 R e) 0 = ix3 R 0 e from funext fun d => match d with
    | ⟨0, _⟩ => rfl
    | ⟨1, _⟩ => rfl
    | ⟨2, _⟩ => rfl,
    show idx_main_v32 (ix2 R e) 1 = ix3 R 1 e from funext fun d => match d with
    | ⟨0, _⟩ => rfl
    | ⟨1, _⟩ => rfl
    | ⟨2, _⟩ => rfl]
  rfl

/-- The reference's mask. -/
theorem ref_mask (R : Fin 8192) (e : Fin 64) :
    val_main_v38 (F := Ideal) x0 x1 x2 x3 x4 (ix2 R e)
      = maskRow (logitRow x0 x1 x4 R) (gateRow x2 x3) (pick x0 x1 x4 R 0) (pick x0 x1 x4 R 1) e := by
  classical
  rw [val_main_v38_apply, val_main_v37_apply, ref_inactive, ref_fallback, ref_active, val_main_call4_v0_apply, val_main_cst_8_apply,
    WordCmp.andi_ofBool, ← maskRow_of_where, ← Bool.decide_and]
  refine (select_word _ _ _).trans ?_
  simp only [Ideal.ofBits_def, one_word]

end Cert.Gating

end
-- ==== Proof.MaskBlock.lean ====
module

public import proofs.«01_k».proof.Proof.Layout
public import proofs.«01_k».proof.Proof.Gen.KernelIdeal.Skeleton

/-! The mask one block computes from its logits, over the ideal values, entry by entry. -/

@[expose] public section

set_option maxRecDepth 16384

noncomputable section

namespace Cert.Gating

open Cert.KernelIdeal Cert.KernelIdeal.Gen
open Idealize.ShloMosaic Idealize.ShloMosaic.ValueIdx

/-- The positions' numbers along every row. -/
def numbers : FVec Ideal S512x64 .f32 := sitofp .f32 (iota .tc S512x64 32 [1] iota_S512x64_d1_w32)

/-- One round of the search: along every row the least number of a position that holds the row's maximum. -/
def roundOf (v : FVec Ideal S512x64 .f32) : FVec Ideal S512x64 .f32 :=
  broadcastTo S512x64 (shapeCast S512x1 (multiReduction .minimumf [1] S512
    (select (cmpf .oeq v (broadcastTo S512x64 (shapeCast S512x1 (multiReduction .maximumf [1] S512 v 0xFF800000#32 reduces_S512x64_S512
        (.inl rfl) rfl) shapeCasts_S512_S512x1) broadcasts_S512x1_S512x64))
      numbers (broadcast S512x64 (Scalar.ofBits .f32 0x42800000#32)))
    0x7F800000#32 reduces_S512x64_S512 (.inl rfl) rfl) shapeCasts_S512_S512x1) broadcasts_S512x1_S512x64

/-- The logits with the first round's position overwritten by the stand-in. -/
def restOf (v : FVec Ideal S512x64 .f32) : FVec Ideal S512x64 .f32 :=
  select (cmpf .oeq numbers (roundOf v)) (broadcast S512x64 (Scalar.ofBits .f32 0xFF7FFFFF#32)) v

/-- The gates scaled by the temperature's logistic, along every row. -/
def gatesOf (g : Vec Ideal S1x64 .f32) (τ : Vec Ideal S1x1 .f32) : FVec Ideal S512x64 .f32 :=
  broadcastTo S512x64 (mulf (shapeCast S1x64 g shapeCasts_S1x64_S1x64)
    (broadcastTo S1x64 (logistic (shapeCast S1x1 τ shapeCasts_S1x1_S1x1)) broadcasts_S1x1_S1x64)) broadcasts_S1x64_S512x64

/-- The bits of the logits above their gates. -/
def activeOf (v : FVec Ideal S512x64 .f32) (g : Vec Ideal S1x64 .f32) (τ : Vec Ideal S1x1 .f32) : FVec Ideal S512x64 .f32 :=
  sitofp .f32 (extui 32 (cmpf .ogt v (gatesOf g τ)) natLt_1_32)

/-- The rows with no logit above its gate, along every row. -/
def inactiveOf (v : FVec Ideal S512x64 .f32) (g : Vec Ideal S1x64 .f32) (τ : Vec Ideal S1x1 .f32) : IVec S512x64 1 :=
  broadcastTo S512x64 (shapeCast S512x1 (cmpf .oeq
      (shapeCast S512x1 (multiReduction .add [1] S512 (activeOf v g τ) 0x00000000#32 reduces_S512x64_S512 (.inl rfl) rfl) shapeCasts_S512_S512x1)
      (broadcast S512x1 (Scalar.ofBits .f32 0x00000000#32))) shapeCasts_S512x1_S512x1) broadcasts_S512x1_S512x64

/-- The bits of the two rounds' positions. -/
def fallbackOf (v : FVec Ideal S512x64 .f32) : FVec Ideal S512x64 .f32 :=
  sitofp .f32 (extui 32 (ori (cmpf .oeq numbers (roundOf v)) (cmpf .oeq numbers (roundOf (restOf v)))) natLt_1_32)

/-- The block's mask in these terms. -/
theorem mask_eq (v : FVec Ideal S512x64 .f32) (g : Vec Ideal S1x64 .f32) (τ : Vec Ideal S1x1 .f32) :
    k0_pay3 (F := Ideal) v g τ = select (inactiveOf v g τ) (fallbackOf v) (activeOf v g τ) := rfl

/-- Position `e` is numbered `e`. -/
theorem numbers_apply (r : Fin 512) (e : Fin 64) : numbers (ix2 r e) = ((e.val : ℝ) : EReal) := by
  simp only [numbers, sitofp]
  rw [iota_single_apply]
  exact word_number e.val (by have := e.isLt; omega)

/-- A round along row `r`. -/
theorem round_apply (v : FVec Ideal S512x64 .f32) (r : Fin 512) (e : Fin 64) :
    roundOf v (ix2 r e)
      = leastAt (fun k : Fin 64 => v (ix2 r k)) (rowMax fun k : Fin 64 => v (ix2 r k)) (Ideal.ofBits .f32 0x42800000#32) := by
  unfold roundOf leastAt
  rw [column_apply, shapeCast_a_a1_apply]
  erw [min_row]
  refine congrArg (Finset.univ.fold min (⊤ : EReal)) (funext fun k => ?_)
  simp only [select, cmpf]
  rw [column_apply, shapeCast_a_a1_apply, numbers_apply]
  erw [max_row]
  exact select_word _ _ _

/-- The second round's row. -/
theorem rest_apply (v : FVec Ideal S512x64 .f32) (r : Fin 512) (e : Fin 64) :
    restOf v (ix2 r e)
      = without (fun k : Fin 64 => v (ix2 r k))
          (leastAt (fun k : Fin 64 => v (ix2 r k)) (rowMax fun k : Fin 64 => v (ix2 r k)) (Ideal.ofBits .f32 0x42800000#32))
          (Ideal.ofBits .f32 0xFF7FFFFF#32) e := by
  unfold restOf without
  simp only [select, cmpf]
  rw [numbers_apply, round_apply]
  exact select_word _ _ _

/-- The gates along row `r`. -/
theorem gates_apply (g : Vec Ideal S1x64 .f32) (τ : Vec Ideal S1x1 .f32) (r : Fin 512) (e : Fin 64) :
    gatesOf g τ (ix2 r e) = g (ix2 (0 : Fin 1) e) * Ideal.logistic (τ (ix2 (0 : Fin 1) (0 : Fin 1))) := by
  unfold gatesOf
  rw [broadcastTo_1b_ab_apply, mulf_apply, column_apply, shapeCast_self, shapeCast_self]
  rfl

/-- The active bits along row `r`. -/
theorem active_apply (v : FVec Ideal S512x64 .f32) (g : Vec Ideal S1x64 .f32) (τ : Vec Ideal S1x1 .f32) (r : Fin 512) (e : Fin 64) :
    activeOf v g τ (ix2 r e)
      = bit (g (ix2 (0 : Fin 1) e) * Ideal.logistic (τ (ix2 (0 : Fin 1) (0 : Fin 1))) < v (ix2 r e)) := by
  simp only [activeOf, sitofp, extui, cmpf]
  rw [gates_apply]
  exact word_bit _

/-- The bits of the rounds' positions along row `r`. -/
theorem fallback_apply (v : FVec Ideal S512x64 .f32) (r : Fin 512) (e : Fin 64) :
    fallbackOf v (ix2 r e) = bit (((e.val : ℝ) : EReal) = roundOf v (ix2 r e) ∨ ((e.val : ℝ) : EReal) = roundOf (restOf v) (ix2 r e)) := by
  simp only [fallbackOf, sitofp, extui, ori, cmpf]
  rw [numbers_apply]
  exact word_either _ _ _

/-- Entry `(r, e)` of the block's mask, for a row of logits above the stand-in. -/
theorem mask_apply (v : FVec Ideal S512x64 .f32) (g : Vec Ideal S1x64 .f32) (τ : Vec Ideal S1x1 .f32) (r : Fin 512) (e i j : Fin 64)
    (h : TopTwo (fun k : Fin 64 => v (ix2 r k)) i j) (hlow : ∀ k : Fin 64, Ideal.ofBits .f32 0xFF7FFFFF#32 < v (ix2 r k)) :
    k0_pay3 (F := Ideal) v g τ (ix2 r e)
      = maskRow (fun k : Fin 64 => v (ix2 r k))
          (fun k : Fin 64 => g (ix2 (0 : Fin 1) k) * Ideal.logistic (τ (ix2 (0 : Fin 1) (0 : Fin 1)))) i j e := by
  classical
  rw [mask_eq, ← maskRow_of_rounds h _ _ hlow number_le_count e]
  simp only [select]
  rw [fallback_apply, round_apply, round_apply, active_apply]
  simp only [rest_apply]
  simp only [inactiveOf]
  rw [column_apply, shapeCast_self]
  simp only [cmpf]
  rw [shapeCast_a_a1_apply]
  erw [sum_row]
  simp only [active_apply]
  refine Eq.trans (select_word _ _ _) ?_
  simp only [broadcast, Scalar.ofBits, Ideal.ofBits_def, Ideal.ofBits_zero_f32]

end Cert.Gating

end
-- ==== Proof.Block.lean ====
module

public import proofs.«01_k».proof.Proof.Layout
public import proofs.«01_k».proof.Proof.Gen.KernelIdeal.Skeleton

/-! What one block computes, over the ideal values, entry by entry. -/

@[expose] public section

set_option maxRecDepth 16384

noncomputable section

namespace Cert.Gating

open Cert.KernelIdeal Cert.KernelIdeal.Gen
open Idealize.ShloMosaic Idealize.ShloMosaic.ValueIdx

/-- The carried matrix: every column normalised. -/
theorem sim_apply (s : Vec Ideal S2048x64 .f32) (k : Fin 2048) (e : Fin 64) :
    k0_pay1 (F := Ideal) s (ix2 k e) = normed (fun k => s (ix2 k e)) k := by
  simp only [k0_pay1, shapeCast_self]
  rw [truncf_apply, divf_apply, broadcastTo_1b_ab_apply, maximumf_apply]
  simp only [sqrt]
  rw [shapeCast_a_1a_apply]
  erw [sum_column]
  rfl

/-- The product's left operand is read in the row of the result. -/
theorem lhs_row (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬ (0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl

/-- The product's right operand is read in the column of the result. -/
theorem rhs_column (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬ (1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- The product's left operand is read along its row. -/
theorem lhs_dot (r : Fin 512) (e : Fin 64) (k : Fin 2048) :
    dot_S512x2048_S2048x64_S512x64_1_0_0_1_n_n.lhsIdx (ix2 r e)
      ((ValueIdx.contrEquiv1 dot_S512x2048_S2048x64_S512x64_1_0_0_1_n_n 2048 rfl rfl).symm k) = ix2 r k := by
  have hk := ValueIdx.contrEquiv1_symm_val dot_S512x2048_S2048x64_S512x64_1_0_0_1_n_n 2048 rfl rfl k
  refine funext fun d => Fin.ext ?_
  match d with
  | ⟨0, _⟩ => exact lhs_row _ _
  | ⟨1, _⟩ => exact (dot_S512x2048_S2048x64_S512x64_1_0_0_1_n_n.lhsIdx_val_of_single rfl _ _).trans hk

/-- The product's right operand is read along its column. -/
theorem rhs_dot (r : Fin 512) (e : Fin 64) (k : Fin 2048) :
    dot_S512x2048_S2048x64_S512x64_1_0_0_1_n_n.rhsIdx (ix2 r e)
      ((ValueIdx.contrEquiv1 dot_S512x2048_S2048x64_S512x64_1_0_0_1_n_n 2048 rfl rfl).symm k) = ix2 k e := by
  have hk := ValueIdx.contrEquiv1_symm_val dot_S512x2048_S2048x64_S512x64_1_0_0_1_n_n 2048 rfl rfl k
  refine funext fun d => Fin.ext ?_
  match d with
  | ⟨0, _⟩ => exact (dot_S512x2048_S2048x64_S512x64_1_0_0_1_n_n.rhsIdx_val_of_single rfl _ _).trans hk
  | ⟨1, _⟩ => exact rhs_column _ _

/-- The block's product, as a sum over the hidden coordinate. -/
theorem dot_apply (x : FVec Ideal S512x2048 .bf16) (y : FVec Ideal S2048x64 .bf16) (r : Fin 512) (e : Fin 64) :
    matmul dot_S512x2048_S2048x64_S512x64_1_0_0_1_n_n none x y (constant S512x64 .f32 0x00000000#32) (ix2 r e)
      = ∑ k : Fin 2048, x (ix2 r k) * y (ix2 k e) := by
  simp only [matmul]
  rw [Ideal.matmul_constant_zero_apply, ← Equiv.sum_comp (ValueIdx.contrEquiv1 dot_S512x2048_S2048x64_S512x64_1_0_0_1_n_n 2048 rfl rfl).symm]
  exact Finset.sum_congr rfl fun k _ => by rw [lhs_dot, rhs_dot]

/-- The block's logits: each row normalised, against the carried columns, weighted. -/
theorem logits_apply (x : Vec Ideal S1x512x2048 .f32) (y : Vec Ideal S2048x64 .bf16) (w : Vec Ideal S1x64 .f32) (r : Fin 512) (e : Fin 64) :
    k0_pay2 (F := Ideal) x y w (ix2 r e)
      = (∑ k : Fin 2048, normed (fun k => x (ix3 (0 : Fin 1) r k)) k * y (ix2 k e)) * w (ix2 (0 : Fin 1) e) := by
  simp only [k0_pay2, shapeCast_self]
  rw [mulf_apply, broadcastTo_1b_ab_apply, dot_apply]
  refine congrArg (· * _) (Finset.sum_congr rfl fun k _ => congrArg (· * _) ?_)
  rw [truncf_apply, divf_apply, column_apply, maximumf_apply, shapeCast_1ab_ab_apply]
  simp only [sqrt]
  rw [shapeCast_a_a1_apply]
  erw [sum_row]
  simp only [mulf_apply, shapeCast_1ab_ab_apply]
  rfl

end Cert.Gating

end
-- ==== Proof.Operands.lean ====
module

public import proofs.«01_k».proof.Proof.Launch
public import proofs.«01_k».proof.Proof.Reference
public import proofs.«01_k».proof.Proof.Norms
public import proofs.«01_k».proof.Proof.MaskBlock
public import proofs.«01_k».proof.Proof.Block
public import Idealize.ShloMosaic.Lib.Pipeline.ValueKit

/-! What the kernel's blocks hold at each grid point, read back to the five arguments. -/

@[expose] public section

set_option maxRecDepth 16384

noncomputable section

namespace Cert.Gating

open Cert.KernelIdeal Cert.KernelIdeal.Gen
open Idealize.ShloMosaic hiding ix0 ix1 ix2 ix3
open Idealize.ShloMosaic.TcCoe Idealize.ShloMosaic.ValueIdx
open Idealize.SL.Sem
open Idealize.ShloMosaic.StableHlo

section Arrays

variable {F : FTy → Type} [FloatOps F]
variable (m : (ℓ : Loc nD τ sig) → Buf (Elt F) ℓ) (c : Dev nD)

/-- The launch finds the hidden states folded to one row for each token, -/
theorem hidden_array : V m c main_v0
    = (shapeCast S8192x2048 (m ((c.tc : Thread nD τ).loc main_arg0)) shapeCasts_S2x4096x2048_S8192x2048 : Vec F S8192x2048 .f32) := by
  unfold_abbrev_sides
  after_results
  rfl
/-- the gates as one row, -/
theorem gates_array : V m c main_v1
    = (shapeCast S1x64 (m ((c.tc : Thread nD τ).loc main_arg2)) shapeCasts_S64_S1x64 : Vec F S1x64 .f32) := by
  unfold_abbrev_sides
  after_results
  rfl
/-- the temperature as a single entry, -/
theorem temp_array : V m c main_v2
    = (shapeCast S1x1 (m ((c.tc : Thread nD τ).loc main_arg3)) shapeCasts_S_S1x1 : Vec F S1x1 .f32) := by
  unfold_abbrev_sides
  after_results
  rfl
/-- and the experts' mask as one row. -/
theorem mask_array : V m c main_v3
    = (shapeCast S1x64 (m ((c.tc : Thread nD τ).loc main_arg4)) shapeCasts_S64_S1x64 : Vec F S1x64 .f32) := by
  unfold_abbrev_sides
  after_results
  rfl

theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)

/-- Every point reads the whole similarity matrix, -/
theorem sim_block (t : Fin cfg0.N) (k : Fin 2048) (e : Fin 64) :
    iblk m c 0 t (ix2 k e) = m ((c.tc : Thread nD τ).loc main_arg1) (ix2 k e) := by
  blk_simp [iblk]
  rw [V_main_arg1]
  congr 1
  blk_ext [index_0 t]
/-- the whole row of gates, -/
theorem gates_block (t : Fin cfg0.N) (e : Fin 64) :
    iblk m c 1 t (ix2 (0 : Fin 1) e) = m ((c.tc : Thread nD τ).loc main_arg2) (ix1 e) := by
  have h : iblk m c 1 t (ix2 (0 : Fin 1) e) = V m c main_v1 (ix2 (0 : Fin 1) e) := by
    blk_simp [iblk]
    congr 1
    blk_ext [index_1 t]
  rw [h, gates_array]
  exact shapeCast_a_1a_apply _ _ (0 : Fin 1) e
/-- the temperature, -/
theorem temp_block (t : Fin cfg0.N) :
    iblk m c 2 t (ix2 (0 : Fin 1) (0 : Fin 1)) = m ((c.tc : Thread nD τ).loc main_arg3) ix0 := by
  have h : iblk m c 2 t (ix2 (0 : Fin 1) (0 : Fin 1)) = V m c main_v2 (ix2 (0 : Fin 1) (0 : Fin 1)) := by
    blk_simp [iblk]
    congr 1
    blk_ext [index_2 t]
  rw [h, temp_array]
  exact shapeCast_apply _ _ _ _ (show (S_.rowMajor ix0 : ℕ) = (S1x1.rowMajor (ix2 (0 : Fin 1) (0 : Fin 1)) : ℕ) by decide)
/-- and the whole row of the experts' mask. -/
theorem mask_block (t : Fin cfg0.N) (e : Fin 64) :
    iblk m c 3 t (ix2 (0 : Fin 1) e) = m ((c.tc : Thread nD τ).loc main_arg4) (ix1 e) := by
  have h : iblk m c 3 t (ix2 (0 : Fin 1) e) = V m c main_v3 (ix2 (0 : Fin 1) e) := by
    blk_simp [iblk]
    congr 1
    blk_ext [index_3 t]
  rw [h, mask_array]
  exact shapeCast_a_1a_apply _ _ (0 : Fin 1) e

/-- Row `r` of block `b` of the hidden states is token `512 b + r`. -/
theorem slotRow_apply (b : Fin 16) (r : Fin 512) (k : Fin 2048) (R : Fin 8192) (hR : R.val = 512 * b.val + r.val) :
    slotRow c (V m c main_v0) b (ix3 (0 : Fin 1) r k) = V m c main_v0 (ix2 R k) := by
  unfold slotRow
  rw [shapeCast_ab_1ab_apply]
  refine congrArg (V m c main_v0) (funext fun a => Fin.ext ?_)
  match a with
  | ⟨0, _⟩ => show 512 * b.val + 1 * r.val = R.val; omega
  | ⟨1, _⟩ => show 0 + 1 * k.val = k.val; omega

end Arrays

/-! ## The points' blocks, over the ideal values -/

variable (m : (ℓ : Loc nD τ sig) → Buf (Elt Ideal) ℓ) (c : Dev nD)

/-- The five arguments' contents. -/
abbrev arg0 : FVec Ideal S2x4096x2048 .f32 := m ((c.tc : Thread nD τ).loc main_arg0)
abbrev arg1 : FVec Ideal S2048x64 .f32 := m ((c.tc : Thread nD τ).loc main_arg1)
abbrev arg2 : FVec Ideal S64 .f32 := m ((c.tc : Thread nD τ).loc main_arg2)
abbrev arg3 : FVec Ideal S_ .f32 := m ((c.tc : Thread nD τ).loc main_arg3)
abbrev arg4 : FVec Ideal S64 .f32 := m ((c.tc : Thread nD τ).loc main_arg4)

/-- Point `t` leaves in row `r` of its block the logits of token `512 t + r`. -/
theorem logitsAt_apply (t : Fin cfg0.N) (r : Fin 512) (e : Fin 64) (R : Fin 8192) (hR : R.val = 512 * t.val + r.val) :
    logitsAt m c t (ix2 r e) = logitRow (arg0 m c) (arg1 m c) (arg4 m c) R e := by
  have ht : t.val < 16 := lt_of_lt_of_eq t.isLt (show cfg0.N = 16 from N_0)
  have hx : (fun k : Fin 2048 => slotRow c (V m c main_v0) (Ring.bk 16 t.val) (ix3 (0 : Fin 1) r k)) = token (arg0 m c) R :=
    funext fun k => (slotRow_apply m c _ r k R (by rw [Ring.bk_val ht]; exact hR)).trans
      (congrFun (hidden_array m c) (ix2 R k))
  have hs : ∀ k : Fin 2048, simn m c (ix2 k e) = normed (expert (arg1 m c) e) k := fun k =>
    (sim_apply (iblk m c 0 t0) k e).trans (congrArg (fun f => normed f k) (funext fun k => sim_block m c t0 k e))
  unfold logitsAt logitsOf logitRow logit
  rw [logits_apply, hx]
  refine congrArg₂ (· * ·) (Finset.sum_congr rfl fun k _ => ?_) (mask_block m c t e)
  rw [hs]

/-- Where every mask entry is below the greatest number of the kernel's float format in size, it leaves there the
    mask row of that token. -/
theorem maskAt_apply (hm : ∀ e : Fin 64, max (arg4 m c (ix1 e) : EReal) (-(arg4 m c (ix1 e) : EReal)) < (greatest : EReal))
    (t : Fin cfg0.N) (r : Fin 512) (e : Fin 64) (R : Fin 8192) (hR : R.val = 512 * t.val + r.val) :
    maskAt m c t (ix2 r e)
      = maskRow (logitRow (arg0 m c) (arg1 m c) (arg4 m c) R) (gateRow (arg2 m c) (arg3 m c))
          (pick (arg0 m c) (arg1 m c) (arg4 m c) R 0) (pick (arg0 m c) (arg1 m c) (arg4 m c) R 1) e := by
  have hl : (fun k : Fin 64 => logitsAt m c t (ix2 r k)) = logitRow (arg0 m c) (arg1 m c) (arg4 m c) R :=
    funext fun k => logitsAt_apply m c t r k R hR
  have hg : (fun k : Fin 64 => @HMul.hMul EReal EReal EReal _ (iblk m c 1 t (ix2 (0 : Fin 1) k)) (Ideal.logistic (iblk m c 2 t (ix2 (0 : Fin 1) (0 : Fin 1)))))
      = gateRow (arg2 m c) (arg3 m c) := funext fun k => by
    rw [gates_block, temp_block]; rfl
  have h := mask_apply (logitsAt m c t) (iblk m c 1 t) (iblk m c 2 t) r e _ _
    (hl ▸ pick_topTwo (arg0 m c) (arg1 m c) (arg4 m c) R) fun k => by
      rw [stand_in_word, congrFun hl k]
      exact low_lt_logit _ _ _ _ (hm k)
  rw [hl, hg] at h
  exact h

end Cert.Gating

end
-- ==== Proof.Arrays.lean ====
module

public import proofs.«01_k».proof.Proof.Operands

/-! The kernel's two result arrays after the last point are the reference's two results. -/

@[expose] public section

set_option maxRecDepth 16384

noncomputable section

namespace Cert.Gating

open Cert.KernelIdeal Cert.KernelIdeal.Gen
open Cert.ReferenceIdeal.Read (val_main_v18 val_main_v38)
open Idealize.ShloMosaic hiding ix0 ix1 ix2 ix3 eq_ix2
open Idealize.ShloMosaic.TcCoe Idealize.ShloMosaic.ValueIdx
open Idealize.SL.Sem

variable (m : (ℓ : Loc nD τ sig) → Buf (Elt Ideal) ℓ) (c : Dev nD)

/-- Point `t` writes the rows from `512 t` on, of the mask -/
theorem index_4 : ∀ t : Fin cfg0.N, win0_4.index t = ![t.val, 0] := (by decide +kernel : ∀ t : Fin grid0.N, _)
/-- and of the logits. -/
theorem index_5 : ∀ t : Fin cfg0.N, win0_5.index t = ![t.val, 0] := (by decide +kernel : ∀ t : Fin grid0.N, _)

/-- Row `r` of point `t`'s block is a row of the array. -/
theorem row_lt (t : Fin cfg0.N) (r : Fin 512) : 512 * t.val + r.val < 8192 := by
  have ht : t.val < 16 := lt_of_lt_of_eq t.isLt (show cfg0.N = 16 from N_0)
  omega

/-- The logits array ends as the reference's. -/
theorem logits_array : (dats m 0 c).arrAt 5 cfg0.N = val_main_v18 (F := Ideal) (arg0 m c) (arg1 m c) (arg4 m c) := by
  refine (dats m 0 c).arrAt_eq_of_covers 5 _ (by decide +kernel) fun t hf y => ?_
  blk_simp
  rw [after_5]
  have hy : (win0_5.blk t).view.emb y = ix2 (⟨512 * t.val + (y 0).val, row_lt t (y 0)⟩ : Fin 8192) (y 1) := by
    blk_ext [index_5 t]
  exact (congrArg (logitsAt m c t) (eq_ix2 y)).trans ((logitsAt_apply m c t (y 0) (y 1) _ rfl).trans
    ((congrArg (val_main_v18 (F := Ideal) (arg0 m c) (arg1 m c) (arg4 m c)) hy).trans (ref_logits _ _ _ _ _)).symm)

/-- The mask array ends as the reference's, where every mask entry is below the greatest number in size. -/
theorem mask_result (hm : ∀ e : Fin 64, max (arg4 m c (ix1 e) : EReal) (-(arg4 m c (ix1 e) : EReal)) < (greatest : EReal)) :
    (dats m 0 c).arrAt 4 cfg0.N
      = val_main_v38 (F := Ideal) (arg0 m c) (arg1 m c) (arg2 m c) (arg3 m c) (arg4 m c) := by
  refine (dats m 0 c).arrAt_eq_of_covers 4 _ (by decide +kernel) fun t hf y => ?_
  blk_simp
  rw [after_4]
  have hy : (win0_4.blk t).view.emb y = ix2 (⟨512 * t.val + (y 0).val, row_lt t (y 0)⟩ : Fin 8192) (y 1) := by
    blk_ext [index_4 t]
  exact (congrArg (maskAt m c t) (eq_ix2 y)).trans ((maskAt_apply m c hm t (y 0) (y 1) _ rfl).trans
    ((congrArg (val_main_v38 (F := Ideal) (arg0 m c) (arg1 m c) (arg2 m c) (arg3 m c) (arg4 m c)) hy).trans
      (ref_mask _ _ _ _ _ _ _)).symm)

end Cert.Gating

end
-- ==== Proof.Same.lean ====
module

public import proofs.«01_k».proof.Kernel
public import proofs.«01_k».proof.Proof.Gen.Kernel
public import proofs.«01_k».proof.Proof.Launch

/-! The kernel and its ideal program are one text: the run of the one, at any floats, is the run of the other. -/

@[expose] public section

set_option maxRecDepth 16384

noncomputable section

namespace Cert.Gating

open Idealize.ShloMosaic Idealize.ShloMosaic.TcCoe Idealize.SL.Sem

variable {F : FTy → Type} [FloatOps F]

/-- The two programs have one kernel body, -/
theorem same_body : @Cert.Kernel.cc0__gating_body F _ _ = @Cert.KernelIdeal.cc0__gating_body F _ _ := rfl

/-- one table of bodies, -/
theorem same_table : @Cert.Kernel.defs₀ F _ _ = @Cert.KernelIdeal.defs₀ F _ _ := by
  unfold Cert.Kernel.defs₀ Cert.KernelIdeal.defs₀
  refine congrArg Defs.onTc (funext fun k => funext fun a => ?_)
  match k, a with
  | ⟨0, _⟩, (t, s) => rfl
  | ⟨k + 1, h⟩, _ => exact absurd h (Nat.not_lt.2 (Nat.le_add_left _ _))

/-- one table with the pipeline's entries, -/
theorem same_defs : @Cert.Kernel.defs F _ _ = @Cert.KernelIdeal.defs F _ _ :=
  congrArg (Pipeline.defs (Cert.KernelIdeal.pcfgs (F := F))) same_table

/-- and one main. -/
theorem same_main : (Cert.Kernel.main (F := F)) = (Cert.KernelIdeal.main (F := F)) := rfl

/-- So the kernel, over any floats, ends with its arguments as launched and every counter at zero. -/
theorem kernel_frame_same (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩
      (fun r => (∀ c : Dev Cert.Kernel.nD, ArgsKept m r.2.mem c) ∧ r.2.sem = fun _ => 0) := by
  rw [same_defs, same_main]
  exact kernel_frame m ρ

end Cert.Gating

end
-- ==== Proof.Range.lean ====
module

public import proofs.«01_k».proof.Pre_mask_in_range
public import proofs.«01_k».proof.Proof.Spec
public import proofs.«01_k».proof.Proof.Layout
public import Idealize.ShloMosaic.PureOps.Ideal

/-! What the precondition says of the experts' mask. -/

@[expose] public section

noncomputable section

namespace Cert.Gating

open Idealize.ShloMosaic
open Idealize.ShloMosaic.ValueIdx

/-- The shape fact the precondition's text asks for. -/
theorem range_facts : Cert.Pre_mask_in_range.Facts := ⟨by decide⟩

/-- Where the precondition is all ones, every mask entry is below the greatest number of the format in size. -/
theorem mask_lt_greatest [Cert.Pre_mask_in_range.Facts] (x0 : FVec Ideal Cert.Pre_mask_in_range.S2x4096x2048 .f32)
    (x1 : FVec Ideal Cert.Pre_mask_in_range.S2048x64 .f32) (x2 : FVec Ideal Cert.Pre_mask_in_range.S64 .f32)
    (x3 : FVec Ideal Cert.Pre_mask_in_range.S_ .f32) (x4 : FVec Ideal Cert.Pre_mask_in_range.S64 .f32)
    (h : Cert.Pre_mask_in_range.fn (F := Ideal) x0 x1 x2 x3 x4 = fun _ => 1#1) (e : Fin 64) :
    max (x4 (ix1 e) : EReal) (-(x4 (ix1 e) : EReal)) < (greatest : EReal) := by
  have he : BitVec.ofBool (decide (max (x4 (ix1 e) : EReal) (-(x4 (ix1 e) : EReal)) < Ideal.ofBits .f32 0x7F7FFFFF#32)) = 1#1 :=
    congrFun h (ix1 e)
  rw [WordCmp.ofBool_decide_eq_one_iff, greatest_word] at he
  exact he

end Cert.Gating

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Arrays
public import proofs.«01_k».proof.Proof.Same
public import proofs.«01_k».proof.Proof.Range
public import Idealize.ShloMosaic.Lib.Quiescent

@[expose] public section

noncomputable section

namespace Cert.Proof

open Idealize.ShloMosaic Idealize.SL.Sem

/-- The kernel, over the device's floats, ends with its arguments as launched and every counter at zero. -/
theorem frame_kernel : Cert.quiescent_Kernel (hKernel := Cert.Kernel.Gen.facts) :=
  fun m ρ _ => Cert.Gating.kernel_frame_same m ρ

/-- So does the kernel over the ideal values. -/
theorem frame_ideal : Cert.quiescent_KernelIdeal (hKernelIdeal := Cert.KernelIdeal.Gen.facts) :=
  fun m ρ _ => Cert.Gating.kernel_frame m ρ

/-- So does the reference: it has no semaphores. -/
theorem frame_reference : Cert.quiescent_ReferenceIdeal (hReferenceIdeal := Cert.ReferenceIdeal.Gen.facts) :=
  fun m ρ _ => (θ_run Cert.ReferenceIdeal.defs _ _).mono
    (fun r h => ⟨fun c => (h c).2.2, sem_eq_zero_of_no_sems (by decide) r.2⟩)
    (Cert.ReferenceIdeal.Value.run (F := Ideal) m ρ)

/-- From equal arguments whose mask is in range, the kernel and the reference end with equal masks and equal logits. -/
theorem equal_results : Cert.algebraic_KernelIdeal_ReferenceIdeal_pre_mask_in_range
    (hKernelIdeal := Cert.KernelIdeal.Gen.facts) (hReferenceIdeal := Cert.ReferenceIdeal.Gen.facts)
    (hPre_mask_in_range := Cert.Gating.range_facts) := by
  intro m g m' g' hpre hagree
  refine ⟨fun c => (Cert.Gating.dats m 0 c).arrAt 4 Cert.KernelIdeal.cfg0.N,
    fun c => (Cert.Gating.dats m 0 c).arrAt 5 Cert.KernelIdeal.cfg0.N, Cert.Gating.run_arrays m g, ?_⟩
  refine (θ_run Cert.ReferenceIdeal.defs _ _).mono (fun r h c => ?_) (Cert.ReferenceIdeal.Value.run (F := Ideal) m' g')
  obtain ⟨h0, h1, h2, h3, h4⟩ := hagree c
  obtain ⟨hmask, hlogits, hargs⟩ := h c
  refine ⟨hmask.trans ?_, hlogits.trans ?_, hargs⟩
  · rw [Cert.ReferenceIdeal.Read.val_main_v38_eq, h0, h1, h2, h3, h4]
    exact (Cert.Gating.mask_result m c
      (@Cert.Gating.mask_lt_greatest Cert.Gating.range_facts _ _ _ _ _ (hpre c))).symm
  · rw [h0, h1, h4]
    exact (Cert.ReferenceIdeal.Read.val_main_v18_eq _ _ _).trans (Cert.Gating.logits_array m c).symm

/-- Every claim of this directory. -/
theorem claim : Cert.Claim :=
  ⟨Cert.Kernel.Gen.facts, Cert.KernelIdeal.Gen.facts, Cert.ReferenceIdeal.Gen.facts, Cert.Gating.range_facts,
    frame_kernel, frame_ideal, fun m g _ => frame_ideal m g trivial, frame_reference,
    fun m g _ => frame_reference m g trivial, trivial, equal_results⟩

end Cert.Proof

end
